-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x12x2048x64 : Shape := ⟨4, ![1, 12, 2048, 64]⟩
abbrev S_ : Shape := ⟨0, ![]⟩

class Facts : Prop where
  bcast_S_S1x12x2048x64 : S_.BroadcastsInDim S1x12x2048x64 (![] : Fin 0 → Fin S1x12x2048x64.rank)

variable [Facts]

def fn {F : FTy → Type} [FloatOps F] (main_arg0 : FVec F S1x12x2048x64 .f32) (main_arg1 : FVec F S1x12x2048x64 .f32) (main_arg2 : FVec F S1x12x2048x64 .f32) : IVec S1x12x2048x64 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_v3 : FVec F S1x12x2048x64 .f32 := Host.absf main_arg1
  let main_cst_0 : FVec F S_ .f32 := constant S_ .f32 0x7F800000#32
  let main_v4 : FVec F S1x12x2048x64 .f32 := broadcastInDim S1x12x2048x64 ![] bcast_S_S1x12x2048x64 main_cst_0
  let main_v5 : IVec S1x12x2048x64 1 := cmpf .olt main_v3 main_v4
  let main_v6 : IVec S1x12x2048x64 1 := andi main_v2 main_v5
  main_v6
-- ==== Kernel.lean ====
abbrev S1x12x2048x64 : Shape := ⟨4, ![1, 12, 2048, 64]⟩
abbrev S1x12x64x2048 : Shape := ⟨4, ![1, 12, 64, 2048]⟩
abbrev S1x1x64x2048 : Shape := ⟨4, ![1, 1, 64, 2048]⟩
abbrev S160x2048 : Shape := ⟨2, ![160, 2048]⟩
abbrev S64x2048 : Shape := ⟨2, ![64, 2048]⟩
abbrev S128x160 : Shape := ⟨2, ![128, 160]⟩
abbrev S64x64 : Shape := ⟨2, ![64, 64]⟩
abbrev S2048x64 : Shape := ⟨2, ![2048, 64]⟩
abbrev S64x32 : Shape := ⟨2, ![64, 32]⟩
abbrev S64x128 : Shape := ⟨2, ![64, 128]⟩
abbrev S2048 : Shape := ⟨1, ![2048]⟩
abbrev S1x2048 : Shape := ⟨2, ![1, 2048]⟩
abbrev S64x160 : Shape := ⟨2, ![64, 160]⟩
abbrev S160x128 : Shape := ⟨2, ![160, 128]⟩
abbrev S1x1x64x128 : Shape := ⟨4, ![1, 1, 64, 128]⟩

abbrev nBuf : Space → Nat
  | .hbm => 8
  | .vmem => 15
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S1x12x64x2048, .f32⟩
  | .hbm, ⟨4, _⟩ => ⟨S1x12x64x2048, .f32⟩
  | .hbm, ⟨5, _⟩ => ⟨S1x12x64x2048, .f32⟩
  | .hbm, ⟨6, _⟩ => ⟨S1x12x64x2048, .f32⟩
  | .hbm, ⟨7, _⟩ => ⟨S1x12x2048x64, .f32⟩
  | .local _ .vmem, ⟨0, _⟩ => ⟨S1x1x64x2048, .f32⟩
  | .local _ .vmem, ⟨1, _⟩ => ⟨S1x1x64x2048, .f32⟩
  | .local _ .vmem, ⟨2, _⟩ => ⟨S1x1x64x2048, .f32⟩
  | .local _ .vmem, ⟨3, _⟩ => ⟨S1x1x64x2048, .f32⟩
  | .local _ .vmem, ⟨4, _⟩ => ⟨S1x1x64x2048, .f32⟩
  | .local _ .vmem, ⟨5, _⟩ => ⟨S1x1x64x2048, .f32⟩
  | .local _ .vmem, ⟨6, _⟩ => ⟨S1x1x64x2048, .f32⟩
  | .local _ .vmem, ⟨7, _⟩ => ⟨S1x1x64x2048, .f32⟩
  | .local _ .vmem, ⟨8, _⟩ => ⟨S160x2048, .f32⟩
  | .local _ .vmem, ⟨9, _⟩ => ⟨S64x2048, .f32⟩
  | .local _ .vmem, ⟨10, _⟩ => ⟨S128x160, .f32⟩
  | .local _ .vmem, ⟨11, _⟩ => ⟨S64x64, .f32⟩
  | .local _ .vmem, ⟨12, _⟩ => ⟨S64x64, .f32⟩
  | .local _ .vmem, ⟨13, _⟩ => ⟨S160x2048, .f32⟩
  | .local _ .vmem, ⟨14, _⟩ => ⟨S2048x64, .f32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x12x2048x64 : Shape := ⟨4, ![1, 12, 2048, 64]⟩
abbrev S2048 : Shape := ⟨1, ![2048]⟩
abbrev S_ : Shape := ⟨0, ![]⟩
abbrev S1x12x2112x64 : Shape := ⟨4, ![1, 12, 2112, 64]⟩
abbrev S2048x1 : Shape := ⟨2, ![2048, 1]⟩
abbrev S64 : Shape := ⟨1, ![64]⟩
abbrev S1x64 : Shape := ⟨2, ![1, 64]⟩
abbrev S2048x64 : Shape := ⟨2, ![2048, 64]⟩
abbrev S2048x64x1 : Shape := ⟨3, ![2048, 64, 1]⟩
abbrev S1x12x2048x64x64 : Shape := ⟨5, ![1, 12, 2048, 64, 64]⟩
abbrev S1x1x2048x64 : Shape := ⟨4, ![1, 1, 2048, 64]⟩
abbrev S1x12x2048 : Shape := ⟨3, ![1, 12, 2048]⟩
abbrev S1x12x2048x1 : Shape := ⟨4, ![1, 12, 2048, 1]⟩
abbrev S64x1 : Shape := ⟨2, ![64, 1]⟩
abbrev S1x12x64x64 : Shape := ⟨4, ![1, 12, 64, 64]⟩

abbrev nBuf : Space → Nat
  | .hbm => 93
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S1x12x2048x64, .f32⟩
  | .hbm, ⟨2, _⟩ => ⟨S1x12x2048x64, .f32⟩
  | .hbm, ⟨3, _⟩ => ⟨S2048, .i32⟩
  | .hbm, ⟨4, _⟩ => ⟨S_, .i32⟩
  | .hbm, ⟨5, _⟩ => ⟨S_, .f32⟩
  | .hbm, ⟨6, _⟩ => ⟨S1x12x2112x64, .f32⟩
  | .hbm, ⟨7, _⟩ => ⟨S_, .i32⟩
  | .hbm, ⟨8, _⟩ => ⟨S_, .f32⟩
  | .hbm, ⟨9, _⟩ => ⟨S1x12x2112x64, .f32⟩
  | .hbm, ⟨10, _⟩ => ⟨S2048x1, .i32⟩
  | .hbm, ⟨11, _⟩ => ⟨S64, .i32⟩
  | .hbm, ⟨12, _⟩ => ⟨S1x64, .i32⟩
  | .hbm, ⟨13, _⟩ => ⟨S2048x64, .i32⟩
  | .hbm, ⟨14, _⟩ => ⟨S2048x64, .i32⟩
  | .hbm, ⟨15, _⟩ => ⟨S2048x64, .i32⟩
  | .hbm, ⟨16, _⟩ => ⟨S2048x64x1, .i32⟩
  | .hbm, ⟨17, _⟩ => ⟨S1x12x2048x64x64, .f32⟩
  | .hbm, ⟨18, _⟩ => ⟨S2048x64x1, .i32⟩
  | .hbm, ⟨19, _⟩ => ⟨S1x12x2048x64x64, .f32⟩
  | .hbm, ⟨20, _⟩ => ⟨S1x12x2048x64, .f32⟩
  | .hbm, ⟨21, _⟩ => ⟨S_, .f32⟩
  | .hbm, ⟨22, _⟩ => ⟨S1x12x2048x64, .f32⟩
  | .hbm, ⟨23, _⟩ => ⟨S1x12x2048x64, .f32⟩
  | .hbm, ⟨24, _⟩ => ⟨S_, .i32⟩
  | .hbm, ⟨25, _⟩ => ⟨S2048x64, .i32⟩
  | .hbm, ⟨26, _⟩ => ⟨S2048x64, .i32⟩
  | .hbm, ⟨27, _⟩ => ⟨S2048x1, .i32⟩
  | .hbm, ⟨28, _⟩ => ⟨S2048x64, .i32⟩
  | .hbm, ⟨29, _⟩ => ⟨S2048x64, .i1⟩
  | .hbm, ⟨30, _⟩ => ⟨S1x1x2048x64, .i1⟩
  | .hbm, ⟨31, _⟩ => ⟨S_, .f32⟩
  | .hbm, ⟨32, _⟩ => ⟨S_, .f32⟩
  | .hbm, ⟨33, _⟩ => ⟨S1x12x2048x64, .i1⟩
  | .hbm, ⟨34, _⟩ => ⟨S1x12x2048x64, .f32⟩
  | .hbm, ⟨35, _⟩ => ⟨S1x12x2048x64, .f32⟩
  | .hbm, ⟨36, _⟩ => ⟨S_, .f32⟩
  | .hbm, ⟨37, _⟩ => ⟨S1x12x2048, .f32⟩
  | .hbm, ⟨38, _⟩ => ⟨S_, .f32⟩
  | .hbm, ⟨39, _⟩ => ⟨S1x12x2048, .f32⟩
  | .hbm, ⟨40, _⟩ => ⟨S1x12x2048, .f32⟩
  | .hbm, ⟨41, _⟩ => ⟨S1x12x2048x1, .f32⟩
  | .hbm, ⟨42, _⟩ => ⟨S1x12x2048x64, .f32⟩
  | .hbm, ⟨43, _⟩ => ⟨S1x12x2048x64, .f32⟩
  | .hbm, ⟨44, _⟩ => ⟨S1x12x2048x64, .f32⟩
  | .hbm, ⟨45, _⟩ => ⟨S_, .f32⟩
  | .hbm, ⟨46, _⟩ => ⟨S1x12x2048, .f32⟩
  | .hbm, ⟨47, _⟩ => ⟨S1x12x2048x1, .f32⟩
  | .hbm, ⟨48, _⟩ => ⟨S1x12x2048x64, .f32⟩
  | .hbm, ⟨49, _⟩ => ⟨S1x12x2048x64, .f32⟩
  | .hbm, ⟨50, _⟩ => ⟨S1x12x2048x64, .f32⟩
  | .hbm, ⟨51, _⟩ => ⟨S64, .i32⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S_, .i32⟩
  | .hbm, ⟨56, _⟩ => ⟨S64, .i32⟩
  | .hbm, ⟨57, _⟩ => ⟨S64, .i32⟩
  | .hbm, ⟨58, _⟩ => ⟨S64x1, .i32⟩
  | .hbm, ⟨59, _⟩ => ⟨S1x12x64x64, .f32⟩
  | .hbm, ⟨60, _⟩ => ⟨S64x1, .i32⟩
  | .hbm, ⟨61, _⟩ => ⟨S1x12x64x64, .f32⟩
  | .hbm, ⟨62, _⟩ => ⟨S1x12x2048x64, .f32⟩
  | .hbm, ⟨63, _⟩ => ⟨S_, .f32⟩
  | .hbm, ⟨64, _⟩ => ⟨S1x12x2048x64, .f32⟩
  | .hbm, ⟨65, _⟩ => ⟨S1x12x2048x64, .f32⟩
  | .hbm, ⟨66, _⟩ => ⟨S1x64, .i32⟩
  | .hbm, ⟨67, _⟩ => ⟨S2048x1, .i32⟩
  | .hbm, ⟨68, _⟩ => ⟨S2048x64, .i32⟩
  | .hbm, ⟨69, _⟩ => ⟨S2048x64, .i32⟩
  | .hbm, ⟨70, _⟩ => ⟨S2048x64, .i1⟩
  | .hbm, ⟨71, _⟩ => ⟨S1x1x2048x64, .i1⟩
  | .hbm, ⟨72, _⟩ => ⟨S_, .f32⟩
  | .hbm, ⟨73, _⟩ => ⟨S_, .f32⟩
  | .hbm, ⟨74, _⟩ => ⟨S1x12x2048x64, .i1⟩
  | .hbm, ⟨75, _⟩ => ⟨S1x12x2048x64, .f32⟩
  | .hbm, ⟨76, _⟩ => ⟨S1x12x2048x64, .f32⟩
  | .hbm, ⟨77, _⟩ => ⟨S_, .f32⟩
  | .hbm, ⟨78, _⟩ => ⟨S1x12x2048, .f32⟩
  | .hbm, ⟨79, _⟩ => ⟨S_, .f32⟩
  | .hbm, ⟨80, _⟩ => ⟨S1x12x2048, .f32⟩
  | .hbm, ⟨81, _⟩ => ⟨S1x12x2048, .f32⟩
  | .hbm, ⟨82, _⟩ => ⟨S1x12x2048x1, .f32⟩
  | .hbm, ⟨83, _⟩ => ⟨S1x12x2048x64, .f32⟩
  | .hbm, ⟨84, _⟩ => ⟨S1x12x2048x64, .f32⟩
  | .hbm, ⟨85, _⟩ => ⟨S1x12x2048x64, .f32⟩
  | .hbm, ⟨86, _⟩ => ⟨S_, .f32⟩
  | .hbm, ⟨87, _⟩ => ⟨S1x12x2048, .f32⟩
  | .hbm, ⟨88, _⟩ => ⟨S1x12x2048x1, .f32⟩
  | .hbm, ⟨89, _⟩ => ⟨S1x12x2048x64, .f32⟩
  | .hbm, ⟨90, _⟩ => ⟨S1x12x2048x64, .f32⟩
  | .hbm, ⟨91, _⟩ => ⟨S1x12x2048x64, .f32⟩
  | .hbm, ⟨92, _⟩ => ⟨S1x12x2048x64, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call2_v0 : Ref sig .tc := ⟨.hbm, 16, rfl⟩
abbrev main_v9 : Ref sig .tc := ⟨.hbm, 17, rfl⟩
abbrev main_call3_v0 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_call5_v0 : Ref sig .tc := ⟨.hbm, 58, rfl⟩
abbrev main_v38 : Ref sig .tc := ⟨.hbm, 59, rfl⟩
abbrev main_call6_v0 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_call7_v0 : Ref sig .tc := ⟨.hbm, 73, rfl⟩
abbrev main_call7_v1 : Ref sig .tc := ⟨.hbm, 74, rfl⟩
abbrev main_call7_v2 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]
-- ==== Proof.Tiles.lean ====
/-
  The kernel's 128-column chunks, read at an index.

  Everything the kernel does for one head happens on transposed blocks (64 features by 2048 positions).  The score scratch is
  written as sixteen chunks of 128 columns, each from its own 160-column stretch of the keys, and the output block likewise.
  Here each chunk is shown to be a block of ONE function of the whole block's index.
-/
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem

/-- The scale that the kernel writes as a literal (one eighth). -/
abbrev eighth : EReal := Ideal.ofBits .f32 0x3E000000#32

/-- A head's block with 32 zero columns in front: column `p` of the padded array (zero past the end). -/
def padCol (X : FVec Ideal S1x1x64x2048 .f32) (d : Fin 64) (p : ℕ) : EReal :=
  if h : 32 ≤ p ∧ p < 2080 then X (ix4 0 0 d ⟨p - 32, by omega⟩) else 0

theorem padCol_of (X : FVec Ideal S1x1x64x2048 .f32) (d : Fin 64) (p : ℕ) (i : S1x1x64x2048.Idx)
    (h2 : (i 2).val = d.val) (h3 : (i 3).val + 32 = p) : X i = padCol X d p := by
  have hi := (i 3).isLt
  have hl : (i 3).val < 2048 := hi
  unfold padCol
  rw [dif_pos ⟨by omega, by omega⟩]
  congr 1
  funext a
  refine Fin.ext ?_
  fin_cases a
  · have : (i 0).val < 1 := (i 0).isLt
    show (i 0).val = 0
    omega
  · have : (i 1).val < 1 := (i 1).isLt
    show (i 1).val = 0
    omega
  · exact h2
  · show (i 3).val = p - 32
    omega

theorem padCol_zero (X : FVec Ideal S1x1x64x2048 .f32) (d : Fin 64) (p : ℕ) (h : p < 32) : padCol X d p = 0 := by
  unfold padCol
  rw [dif_neg (by omega)]

/-- The score scratch as one function: row `c` of column `s` pairs the query at `s` with padded key column `128·⌊s/128⌋ + c`. -/
def scoreAll (Q K : FVec Ideal S1x1x64x2048 .f32) : FVec Ideal S160x2048 .f32 := fun i =>
  ∑ d : Fin 64, padCol K d (128 * ((i 1).val / 128) + (i 0).val) * (Q (ix4 0 0 d (i 1)) * eighth)

/-- The output block as one function of the weights `W` and the landmark part `G`. -/
def outAll (V : FVec Ideal S1x1x64x2048 .f32) (W : FVec Ideal S160x2048 .f32) (G : FVec Ideal S64x2048 .f32) :
    FVec Ideal S1x1x64x2048 .f32 := fun i =>
  (∑ c : Fin 160, padCol V (i 2) (128 * ((i 3).val / 128) + c.val) * W (ix2 c (i 3))) + G (ix2 (i 2) (i 3))

theorem pay5_eq (K : FVec Ideal S1x1x64x2048 .f32) (i : S64x2048.Idx) :
    k0_pay5 (F := Ideal) K i = K (ix4 0 0 (i 0) (i 1)) := by
  pointwise [k0_pay5]

theorem pay6_eq (K : FVec Ideal S1x1x64x2048 .f32) (i : S64x2048.Idx) :
    k0_pay6 (F := Ideal) K i = K (ix4 0 0 (i 0) (i 1)) := by
  pointwise [k0_pay6]

theorem pay15_eq (Q : FVec Ideal S1x1x64x2048 .f32) (i : S64x2048.Idx) :
    k0_pay15 (F := Ideal) Q i = Q (ix4 0 0 (i 0) (i 1)) * eighth := by
  pointwise [k0_pay15]

/-- A score chunk at an index: a product over the chunk's key stretch `B`. -/
theorem scoreTile (o : ℕ) (Q K : FVec Ideal S1x1x64x2048 .f32) (B : FVec Ideal S64x160 .f32) (hm : o % 128 = 0)
    (hB : ∀ (d : Fin 64) (c : Fin 160), B (ix2 d c) = padCol K d (o + c.val))
    (hQ : S64x2048.Slices ![0, o] S64x128) (x : S160x128.Idx) (y : S160x2048.Idx)
    (h0 : (y 0).val = (x 0).val) (h1 : (y 1).val = o + (x 1).val) :
    matmul dot_S64x160_S64x128_S160x128_0_0_1_1_n_n none B (extractStridedSlice S64x128 ![0, o] (k0_pay15 (F := Ideal) Q) hQ)
      (constant S160x128 .f32 0x00000000#32) x = scoreAll Q K y := by
  have hx : (x 1).val < 128 := (x 1).isLt
  have ek : 128 * ((y 1).val / 128) + (y 0).val = o + (x 0).val := by omega
  unfold scoreAll
  pointwise
  refine Finset.sum_congr rfl fun d _ => ?_
  rw [ek]
  refine congrArg₂ (· * ·) (hB d (x 0)) ((pay15_eq Q _).trans ?_)
  exact congrArg (fun s : Fin 2048 => Q (ix4 0 0 d s) * eighth) (Fin.ext h1.symm)

/-- An output chunk at an index, from the chunk's value stretch `B` and its columns `w` of the weights. -/
theorem outTile (o : ℕ) (V : FVec Ideal S1x1x64x2048 .f32) (W : FVec Ideal S160x2048 .f32) (G : FVec Ideal S64x2048 .f32)
    (B : FVec Ideal S64x160 .f32) (w : FVec Ideal S160x128 .f32) (hm : o % 128 = 0)
    (hB : ∀ (d : Fin 64) (c : Fin 160), B (ix2 d c) = padCol V d (o + c.val))
    (hw : ∀ (c : Fin 160) (r : Fin 128) (s : Fin 2048), s.val = o + r.val → w (ix2 c r) = W (ix2 c s))
    (hG : S64x2048.Slices ![0, o] S64x128) (x : S1x1x64x128.Idx) (y : S1x1x64x2048.Idx)
    (h2 : (y 2).val = (x 2).val) (h3 : (y 3).val = o + (x 3).val) :
    shapeCast S1x1x64x128 (addf (matmul dot_S64x160_S160x128_S64x128_1_0_0_1_n_n none B w
      (constant S64x128 .f32 0x00000000#32)) (extractStridedSlice S64x128 ![0, o] G hG))
      shapeCasts_S64x128_S1x1x64x128 x = outAll V W G y := by
  have hx : (x 3).val < 128 := (x 3).isLt
  have e2 : y 2 = x 2 := Fin.ext h2
  have ek : 128 * ((y 3).val / 128) = o := by omega
  unfold outAll
  pointwise
  rw [ek]
  refine congrArg₂ (· + ·) (Finset.sum_congr rfl fun c _ => congrArg₂ (· * ·) ?_ (hw c (x 3) (y 3) h3)) ?_
  · exact (hB (x 2) c).trans (congrArg (fun d : Fin 64 => padCol V d (o + c.val)) e2.symm)
  · exact congrArg₂ (fun (d : Fin 64) (s : Fin 2048) => G (ix2 d s)) e2.symm (Fin.ext h3.symm)

/-- A 160-column stretch of the keys is padded columns `o'+32 …`. -/
theorem stretchK (o o' : ℕ) (K : FVec Ideal S1x1x64x2048 .f32) (ho : o = o' + 32)
    (hK : S64x2048.Slices ![0, o'] S64x160) (d : Fin 64) (c : Fin 160) :
    extractStridedSlice S64x160 ![0, o'] (k0_pay5 (F := Ideal) K) hK (ix2 d c) = padCol K d (o + c.val) := by
  pointwise
  refine (pay5_eq K _).trans (padCol_of K d (o + c.val) _ rfl ?_)
  show o' + c.val + 32 = o + c.val
  omega

/-- A 160-column stretch of the values is padded columns `o'+32 …`. -/
theorem stretchV (o o' : ℕ) (K : FVec Ideal S1x1x64x2048 .f32) (ho : o = o' + 32)
    (hK : S64x2048.Slices ![0, o'] S64x160) (d : Fin 64) (c : Fin 160) :
    extractStridedSlice S64x160 ![0, o'] (k0_pay6 (F := Ideal) K) hK (ix2 d c) = padCol K d (o + c.val) := by
  pointwise
  refine (pay6_eq K _).trans (padCol_of K d (o + c.val) _ rfl ?_)
  show o' + c.val + 32 = o + c.val
  omega

/-- The first chunk's key and value scratch: keys in the upper 64 rows, values in the lower, 32 zero columns in front of each. -/
def firstAll (K V : FVec Ideal S1x1x64x2048 .f32) : FVec Ideal S128x160 .f32 := fun i =>
  if h : (i 0).val < 64 then padCol K ⟨(i 0).val, h⟩ (i 1).val
  else padCol V ⟨(i 0).val - 64, by have : (i 0).val < 128 := (i 0).isLt; omega⟩ (i 1).val

theorem first_zero (K V : FVec Ideal S1x1x64x2048 .f32) (y : S128x160.Idx) (h : (y 1).val < 32) : firstAll K V y = 0 := by
  unfold firstAll
  split
  · exact padCol_zero _ _ _ h
  · exact padCol_zero _ _ _ h

theorem pay10_zero (x : S64x32.Idx) : k0_pay10 (F := Ideal) x = 0 := by
  unfold k0_pay10
  exact (congrFun (shapeCast_self (k0_pay9 (F := Ideal)) _) x).trans Ideal.ofBits_zero_f32

theorem pay11_zero (x : S64x32.Idx) : k0_pay11 (F := Ideal) x = 0 := by
  unfold k0_pay11
  exact (congrFun (shapeCast_self (k0_pay9 (F := Ideal)) _) x).trans Ideal.ofBits_zero_f32

theorem pay13_first (K V : FVec Ideal S1x1x64x2048 .f32) (x : S64x128.Idx) (y : S128x160.Idx)
    (h0 : (y 0).val = (x 0).val) (h1 : (y 1).val = 32 + (x 1).val) :
    k0_pay13 (k0_pay12 (F := Ideal) K) x = firstAll K V y := by
  have hx : (x 0).val < 64 := (x 0).isLt
  unfold firstAll
  rw [dif_pos (by omega)]
  pointwise [k0_pay13, k0_pay12]
  refine (pay5_eq K _).trans (padCol_of K _ _ _ ?_ ?_)
  · exact h0.symm
  · rw [h1]; exact Nat.add_comm _ _

theorem pay14_first (K V : FVec Ideal S1x1x64x2048 .f32) (x : S64x128.Idx) (y : S128x160.Idx)
    (h0 : (y 0).val = 64 + (x 0).val) (h1 : (y 1).val = 32 + (x 1).val) :
    k0_pay14 (k0_pay6 (F := Ideal) V) x = firstAll K V y := by
  unfold firstAll
  rw [dif_neg (by omega)]
  pointwise [k0_pay14]
  refine (pay6_eq V _).trans (padCol_of V _ _ _ ?_ ?_)
  · show (x 0).val = (y 0).val - 64
    omega
  · rw [h1]; exact Nat.add_comm _ _

end Cert.KernelIdeal.Val
-- ==== Proof.Block.lean ====
/-
  The stores of one grid point, each list of chunks read as one function of the buffer's index.
-/
module

public import proofs.«01_k».proof.Proof.Tiles

@[expose] public section

set_option maxRecDepth 16384

noncomputable section

namespace Cert.KernelIdeal.Val

open Cert.KernelIdeal Cert.KernelIdeal.Gen Idealize.ShloMosaic Idealize.ShloMosaic.TcCoe Idealize.SL.Sem

/-- A load of a buffer filled by stores is a load of any function that agrees with the stores where the load reads. -/
theorem readCov_eq_of {s : Shape} {e : EltTy} {κ : Kind} {sp : Space} (v : View sig κ sp s e) (L : List (View.Piece (Elt Ideal) s e)) (B : LoadRect s)
    (G : s.Idx → Elt Ideal e) (h : ∀ j, View.canon L (B.idx j) = G (B.idx j)) : v.readCov L B = fun j => G (B.idx j) := by
  rw [View.readCov_eq_canon']
  exact funext h

/-- The sixteen chunks of the score scratch are one function. -/
theorem scoreTiles (Q K : FVec Ideal S1x1x64x2048 .f32) (B : FVec Ideal S64x160 .f32)
    (hB : ∀ (d : Fin 64) (c : Fin 160), B (ix2 d c) = padCol K d (0 + c.val)) (y : S160x2048.Idx) :
    View.canon (Val := Elt Ideal) (s := S160x2048) (e := .f32) [⟨Rect.unit ![0, 1920] S160x128.size inb_S160x2048_S160x128_0_1920, k0_pay35 (F := Ideal) (k0_pay5 (F := Ideal) K) (k0_pay15 (F := Ideal) Q)⟩,
      ⟨Rect.unit ![0, 1792] S160x128.size inb_S160x2048_S160x128_0_1792, k0_pay34 (F := Ideal) (k0_pay5 (F := Ideal) K) (k0_pay15 (F := Ideal) Q)⟩,
      ⟨Rect.unit ![0, 1664] S160x128.size inb_S160x2048_S160x128_0_1664, k0_pay33 (F := Ideal) (k0_pay32 (F := Ideal) (k0_pay5 (F := Ideal) K) (k0_pay15 (F := Ideal) Q))⟩,
      ⟨Rect.unit ![0, 1536] S160x128.size inb_S160x2048_S160x128_0_1536, k0_pay31 (F := Ideal) (k0_pay5 (F := Ideal) K) (k0_pay15 (F := Ideal) Q)⟩,
      ⟨Rect.unit ![0, 1408] S160x128.size inb_S160x2048_S160x128_0_1408, k0_pay30 (F := Ideal) (k0_pay5 (F := Ideal) K) (k0_pay15 (F := Ideal) Q)⟩,
      ⟨Rect.unit ![0, 1280] S160x128.size inb_S160x2048_S160x128_0_1280, k0_pay29 (F := Ideal) (k0_pay5 (F := Ideal) K) (k0_pay15 (F := Ideal) Q)⟩,
      ⟨Rect.unit ![0, 1152] S160x128.size inb_S160x2048_S160x128_0_1152, k0_pay28 (F := Ideal) (k0_pay5 (F := Ideal) K) (k0_pay15 (F := Ideal) Q)⟩,
      ⟨Rect.unit ![0, 1024] S160x128.size inb_S160x2048_S160x128_0_1024, k0_pay27 (F := Ideal) (k0_pay5 (F := Ideal) K) (k0_pay15 (F := Ideal) Q)⟩,
      ⟨Rect.unit ![0, 896] S160x128.size inb_S160x2048_S160x128_0_896, k0_pay26 (F := Ideal) (k0_pay25 (F := Ideal) (k0_pay5 (F := Ideal) K) (k0_pay15 (F := Ideal) Q))⟩,
      ⟨Rect.unit ![0, 768] S160x128.size inb_S160x2048_S160x128_0_768, k0_pay24 (F := Ideal) (k0_pay5 (F := Ideal) K) (k0_pay15 (F := Ideal) Q)⟩,
      ⟨Rect.unit ![0, 640] S160x128.size inb_S160x2048_S160x128_0_640, k0_pay23 (F := Ideal) (k0_pay5 (F := Ideal) K) (k0_pay15 (F := Ideal) Q)⟩,
      ⟨Rect.unit ![0, 512] S160x128.size inb_S160x2048_S160x128_0_512, k0_pay22 (F := Ideal) (k0_pay5 (F := Ideal) K) (k0_pay15 (F := Ideal) Q)⟩,
      ⟨Rect.unit ![0, 384] S160x128.size inb_S160x2048_S160x128_0_384, k0_pay21 (F := Ideal) (k0_pay5 (F := Ideal) K) (k0_pay15 (F := Ideal) Q)⟩,
      ⟨Rect.unit ![0, 256] S160x128.size inb_S160x2048_S160x128_0_256, k0_pay20 (F := Ideal) (k0_pay5 (F := Ideal) K) (k0_pay15 (F := Ideal) Q)⟩,
      ⟨Rect.unit ![0, 128] S160x128.size inb_S160x2048_S160x128_0_128, k0_pay19 (F := Ideal) (k0_pay18 (F := Ideal) (k0_pay5 (F := Ideal) K) Q)⟩,
      ⟨Rect.unit ![0, 0] S160x128.size inb_S160x2048_S160x128_0_0, k0_pay17 (F := Ideal) Q B⟩] y = scoreAll Q K y := by
  canon_tiles x h
  · exact (congrFun (shapeCast_self _ _) x).trans (scoreTile 1920 Q K _ rfl (fun d c => stretchK 1920 1888 K rfl _ d c) _ x y h0 h1)
  · exact (congrFun (shapeCast_self _ _) x).trans (scoreTile 1792 Q K _ rfl (fun d c => stretchK 1792 1760 K rfl _ d c) _ x y h0 h1)
  · exact (congrFun (shapeCast_self _ _) x).trans (scoreTile 1664 Q K _ rfl (fun d c => stretchK 1664 1632 K rfl _ d c) _ x y h0 h1)
  · exact (congrFun (shapeCast_self _ _) x).trans (scoreTile 1536 Q K _ rfl (fun d c => stretchK 1536 1504 K rfl _ d c) _ x y h0 h1)
  · exact (congrFun (shapeCast_self _ _) x).trans (scoreTile 1408 Q K _ rfl (fun d c => stretchK 1408 1376 K rfl _ d c) _ x y h0 h1)
  · exact (congrFun (shapeCast_self _ _) x).trans (scoreTile 1280 Q K _ rfl (fun d c => stretchK 1280 1248 K rfl _ d c) _ x y h0 h1)
  · exact (congrFun (shapeCast_self _ _) x).trans (scoreTile 1152 Q K _ rfl (fun d c => stretchK 1152 1120 K rfl _ d c) _ x y h0 h1)
  · exact (congrFun (shapeCast_self _ _) x).trans (scoreTile 1024 Q K _ rfl (fun d c => stretchK 1024 992 K rfl _ d c) _ x y h0 h1)
  · exact (congrFun (shapeCast_self _ _) x).trans (scoreTile 896 Q K _ rfl (fun d c => stretchK 896 864 K rfl _ d c) _ x y h0 h1)
  · exact (congrFun (shapeCast_self _ _) x).trans (scoreTile 768 Q K _ rfl (fun d c => stretchK 768 736 K rfl _ d c) _ x y h0 h1)
  · exact (congrFun (shapeCast_self _ _) x).trans (scoreTile 640 Q K _ rfl (fun d c => stretchK 640 608 K rfl _ d c) _ x y h0 h1)
  · exact (congrFun (shapeCast_self _ _) x).trans (scoreTile 512 Q K _ rfl (fun d c => stretchK 512 480 K rfl _ d c) _ x y h0 h1)
  · exact (congrFun (shapeCast_self _ _) x).trans (scoreTile 384 Q K _ rfl (fun d c => stretchK 384 352 K rfl _ d c) _ x y h0 h1)
  · exact (congrFun (shapeCast_self _ _) x).trans (scoreTile 256 Q K _ rfl (fun d c => stretchK 256 224 K rfl _ d c) _ x y h0 h1)
  · exact (congrFun (shapeCast_self _ _) x).trans (scoreTile 128 Q K _ rfl (fun d c => stretchK 128 96 K rfl _ d c) _ x y h0 h1)
  · exact (congrFun (shapeCast_self _ _) x).trans (scoreTile 0 Q K _ rfl (hB) _ x y h0 (h1.trans (Nat.zero_add _).symm))

/-- A load of 128 columns of the weights, at an index. -/
theorem ldCols (o : ℕ) (W : FVec Ideal S160x2048 .f32) (inb) (c : Fin 160) (r : Fin 128) (s : Fin 2048) (h : s.val = o + r.val) :
    View.ld (Val := Elt Ideal) (e' := .f32) W (Rect.unit (s := S160x2048) ![0, o] S160x128.size inb) (ix2 c r) = W (ix2 c s) := by
  pointwise
  exact congrArg (fun s : Fin 2048 => W (ix2 c s)) (Fin.ext h.symm)

/-- The sixteen chunks of the output block are one function. -/
theorem outTiles (V : FVec Ideal S1x1x64x2048 .f32) (W : FVec Ideal S160x2048 .f32) (G : FVec Ideal S64x2048 .f32) (B : FVec Ideal S64x160 .f32)
    (hB : ∀ (d : Fin 64) (c : Fin 160), B (ix2 d c) = padCol V d (0 + c.val)) (y : S1x1x64x2048.Idx) :
    View.canon (Val := Elt Ideal) (s := S1x1x64x2048) (e := .f32) [⟨Rect.unit ![0, 0, 0, 1920] S1x1x64x128.size inb_S1x1x64x2048_S1x1x64x128_0_0_0_1920,
        k0_pay1 (F := Ideal) (k0_pay55 (F := Ideal) (k0_pay6 (F := Ideal) V) G (View.ld (Val := Elt Ideal) (e' := .f32) W (Rect.unit ![0, 1920] S160x128.size inb_S160x2048_S160x128_0_1920)))⟩,
      ⟨Rect.unit ![0, 0, 0, 1792] S1x1x64x128.size inb_S1x1x64x2048_S1x1x64x128_0_0_0_1792,
        k0_pay54 (F := Ideal) (k0_pay6 (F := Ideal) V) G (View.ld (Val := Elt Ideal) (e' := .f32) W (Rect.unit ![0, 1792] S160x128.size inb_S160x2048_S160x128_0_1792))⟩,
      ⟨Rect.unit ![0, 0, 0, 1664] S1x1x64x128.size inb_S1x1x64x2048_S1x1x64x128_0_0_0_1664,
        k0_pay53 (F := Ideal) (k0_pay6 (F := Ideal) V) G (View.ld (Val := Elt Ideal) (e' := .f32) W (Rect.unit ![0, 1664] S160x128.size inb_S160x2048_S160x128_0_1664))⟩,
      ⟨Rect.unit ![0, 0, 0, 1536] S1x1x64x128.size inb_S1x1x64x2048_S1x1x64x128_0_0_0_1536,
        k0_pay52 (F := Ideal) (k0_pay6 (F := Ideal) V) G (View.ld (Val := Elt Ideal) (e' := .f32) W (Rect.unit ![0, 1536] S160x128.size inb_S160x2048_S160x128_0_1536))⟩,
      ⟨Rect.unit ![0, 0, 0, 1408] S1x1x64x128.size inb_S1x1x64x2048_S1x1x64x128_0_0_0_1408,
        k0_pay51 (F := Ideal) (k0_pay50 (F := Ideal) (k0_pay6 (F := Ideal) V) G (View.ld (Val := Elt Ideal) (e' := .f32) W (Rect.unit ![0, 1408] S160x128.size inb_S160x2048_S160x128_0_1408)))⟩,
      ⟨Rect.unit ![0, 0, 0, 1280] S1x1x64x128.size inb_S1x1x64x2048_S1x1x64x128_0_0_0_1280,
        k0_pay49 (F := Ideal) (k0_pay6 (F := Ideal) V) G (View.ld (Val := Elt Ideal) (e' := .f32) W (Rect.unit ![0, 1280] S160x128.size inb_S160x2048_S160x128_0_1280))⟩,
      ⟨Rect.unit ![0, 0, 0, 1152] S1x1x64x128.size inb_S1x1x64x2048_S1x1x64x128_0_0_0_1152,
        k0_pay48 (F := Ideal) (k0_pay6 (F := Ideal) V) G (View.ld (Val := Elt Ideal) (e' := .f32) W (Rect.unit ![0, 1152] S160x128.size inb_S160x2048_S160x128_0_1152))⟩,
      ⟨Rect.unit ![0, 0, 0, 1024] S1x1x64x128.size inb_S1x1x64x2048_S1x1x64x128_0_0_0_1024,
        k0_pay47 (F := Ideal) (k0_pay6 (F := Ideal) V) G (View.ld (Val := Elt Ideal) (e' := .f32) W (Rect.unit ![0, 1024] S160x128.size inb_S160x2048_S160x128_0_1024))⟩,
      ⟨Rect.unit ![0, 0, 0, 896] S1x1x64x128.size inb_S1x1x64x2048_S1x1x64x128_0_0_0_896,
        k0_pay46 (F := Ideal) (k0_pay6 (F := Ideal) V) G (View.ld (Val := Elt Ideal) (e' := .f32) W (Rect.unit ![0, 896] S160x128.size inb_S160x2048_S160x128_0_896))⟩,
      ⟨Rect.unit ![0, 0, 0, 768] S1x1x64x128.size inb_S1x1x64x2048_S1x1x64x128_0_0_0_768,
        k0_pay45 (F := Ideal) (k0_pay6 (F := Ideal) V) G (View.ld (Val := Elt Ideal) (e' := .f32) W (Rect.unit ![0, 768] S160x128.size inb_S160x2048_S160x128_0_768))⟩,
      ⟨Rect.unit ![0, 0, 0, 640] S1x1x64x128.size inb_S1x1x64x2048_S1x1x64x128_0_0_0_640,
        k0_pay44 (F := Ideal) (k0_pay6 (F := Ideal) V) G (View.ld (Val := Elt Ideal) (e' := .f32) W (Rect.unit ![0, 640] S160x128.size inb_S160x2048_S160x128_0_640))⟩,
      ⟨Rect.unit ![0, 0, 0, 512] S1x1x64x128.size inb_S1x1x64x2048_S1x1x64x128_0_0_0_512,
        k0_pay43 (F := Ideal) G (View.ld (Val := Elt Ideal) (e' := .f32) W (Rect.unit ![0, 512] S160x128.size inb_S160x2048_S160x128_0_512)) (k0_pay42 (F := Ideal) (k0_pay6 (F := Ideal) V)) (constant S64x128 .f32 0x00000000#32)⟩,
      ⟨Rect.unit ![0, 0, 0, 384] S1x1x64x128.size inb_S1x1x64x2048_S1x1x64x128_0_0_0_384,
        k0_pay41 (F := Ideal) (k0_pay6 (F := Ideal) V) G (View.ld (Val := Elt Ideal) (e' := .f32) W (Rect.unit ![0, 384] S160x128.size inb_S160x2048_S160x128_0_384))⟩,
      ⟨Rect.unit ![0, 0, 0, 256] S1x1x64x128.size inb_S1x1x64x2048_S1x1x64x128_0_0_0_256,
        k0_pay40 (F := Ideal) (k0_pay6 (F := Ideal) V) G (View.ld (Val := Elt Ideal) (e' := .f32) W (Rect.unit ![0, 256] S160x128.size inb_S160x2048_S160x128_0_256))⟩,
      ⟨Rect.unit ![0, 0, 0, 128] S1x1x64x128.size inb_S1x1x64x2048_S1x1x64x128_0_0_0_128,
        k0_pay39 (F := Ideal) (k0_pay6 (F := Ideal) V) G (View.ld (Val := Elt Ideal) (e' := .f32) W (Rect.unit ![0, 128] S160x128.size inb_S160x2048_S160x128_0_128))⟩,
      ⟨Rect.unit ![0, 0, 0, 0] S1x1x64x128.size inb_S1x1x64x2048_S1x1x64x128_0_0_0_0,
        k0_pay38 (F := Ideal) (k0_pay37 (F := Ideal) G (View.ld (Val := Elt Ideal) (e' := .f32) W (Rect.unit ![0, 0] S160x128.size inb_S160x2048_S160x128_0_0)) B)⟩] y = outAll V W G y := by
  canon_tiles x h
  · exact outTile 1920 V W G _ _ rfl (fun d c => stretchV 1920 1888 V rfl _ d c) (ldCols 1920 W _) _ x y h2 h3
  · exact outTile 1792 V W G _ _ rfl (fun d c => stretchV 1792 1760 V rfl _ d c) (ldCols 1792 W _) _ x y h2 h3
  · exact outTile 1664 V W G _ _ rfl (fun d c => stretchV 1664 1632 V rfl _ d c) (ldCols 1664 W _) _ x y h2 h3
  · exact outTile 1536 V W G _ _ rfl (fun d c => stretchV 1536 1504 V rfl _ d c) (ldCols 1536 W _) _ x y h2 h3
  · exact outTile 1408 V W G _ _ rfl (fun d c => stretchV 1408 1376 V rfl _ d c) (ldCols 1408 W _) _ x y h2 h3
  · exact outTile 1280 V W G _ _ rfl (fun d c => stretchV 1280 1248 V rfl _ d c) (ldCols 1280 W _) _ x y h2 h3
  · exact outTile 1152 V W G _ _ rfl (fun d c => stretchV 1152 1120 V rfl _ d c) (ldCols 1152 W _) _ x y h2 h3
  · exact outTile 1024 V W G _ _ rfl (fun d c => stretchV 1024 992 V rfl _ d c) (ldCols 1024 W _) _ x y h2 h3
  · exact outTile 896 V W G _ _ rfl (fun d c => stretchV 896 864 V rfl _ d c) (ldCols 896 W _) _ x y h2 h3
  · exact outTile 768 V W G _ _ rfl (fun d c => stretchV 768 736 V rfl _ d c) (ldCols 768 W _) _ x y h2 h3
  · exact outTile 640 V W G _ _ rfl (fun d c => stretchV 640 608 V rfl _ d c) (ldCols 640 W _) _ x y h2 h3
  · exact outTile 512 V W G _ _ rfl (fun d c => stretchV 512 480 V rfl slices_S64x2048_o0_480_S64x160 d c) (ldCols 512 W _) _ x y h2 h3
  · exact outTile 384 V W G _ _ rfl (fun d c => stretchV 384 352 V rfl _ d c) (ldCols 384 W _) _ x y h2 h3
  · exact outTile 256 V W G _ _ rfl (fun d c => stretchV 256 224 V rfl _ d c) (ldCols 256 W _) _ x y h2 h3
  · exact outTile 128 V W G _ _ rfl (fun d c => stretchV 128 96 V rfl _ d c) (ldCols 128 W _) _ x y h2 h3
  · exact outTile 0 V W G _ _ rfl (hB) (ldCols 0 W _) _ x y h2 (h3.trans (Nat.zero_add _).symm)

theorem firstPieces (K V : FVec Ideal S1x1x64x2048 .f32) :
    ∀ p ∈ ([⟨Rect.unit (s := S128x160) ![0, 32] S64x128.size inb_S128x160_S64x128_0_32, k0_pay13 (F := Ideal) (k0_pay12 (F := Ideal) K)⟩,
      ⟨Rect.unit ![64, 0] S64x32.size inb_S128x160_S64x32_64_0, (k0_pay11 (F := Ideal))⟩,
      ⟨Rect.unit ![0, 0] S64x32.size inb_S128x160_S64x32_0_0, (k0_pay10 (F := Ideal))⟩] : List (View.Piece (Elt Ideal) S128x160 .f32)),
      ∀ x : p.1.shape.Idx, p.2 x = firstAll K V (p.1.emb x) := by
  simp only [List.mem_cons, forall_eq_or_imp, List.not_mem_nil, false_imp_iff, implies_true, and_true]
  refine ⟨fun x => ?_, fun x => ?_, fun x => ?_⟩
  · refine pay13_first K V x _ ?_ ?_
    · exact (ValueKit.rect_emb_unit_val _ _ _ x 0).trans (Nat.zero_add _)
    · exact ValueKit.rect_emb_unit_val _ _ _ x 1
  · have hx : (x 1).val < 32 := (x 1).isLt
    refine (pay11_zero x).trans (first_zero K V _ ?_).symm
    exact lt_of_eq_of_lt ((ValueKit.rect_emb_unit_val _ _ _ x 1).trans (Nat.zero_add _)) hx
  · have hx : (x 1).val < 32 := (x 1).isLt
    refine (pay10_zero x).trans (first_zero K V _ ?_).symm
    exact lt_of_eq_of_lt ((ValueKit.rect_emb_unit_val _ _ _ x 1).trans (Nat.zero_add _)) hx

/-- The key half of the first chunk's scratch. -/
theorem firstK (K V : FVec Ideal S1x1x64x2048 .f32) (y : S128x160.Idx) (hy : (y 0).val < 64) :
    View.canon (Val := Elt Ideal) (s := S128x160) (e := .f32)
      [⟨Rect.unit (s := S128x160) ![0, 32] S64x128.size inb_S128x160_S64x128_0_32, k0_pay13 (F := Ideal) (k0_pay12 (F := Ideal) K)⟩,
      ⟨Rect.unit ![64, 0] S64x32.size inb_S128x160_S64x32_64_0, (k0_pay11 (F := Ideal))⟩,
      ⟨Rect.unit ![0, 0] S64x32.size inb_S128x160_S64x32_0_0, (k0_pay10 (F := Ideal))⟩] y = firstAll K V y := by
  have h1 : (y 1).val < 160 := (y 1).isLt
  refine View.canon_append_of_pieces (Val := Elt Ideal) (S := S128x160) (e := .f32) (firstAll K V) [] _ (firstPieces K V) y ?_
  by_cases hc : (y 1).val < 32
  · refine ⟨⟨Rect.unit (s := S128x160) ![0, 0] S64x32.size inb_S128x160_S64x32_0_0, (k0_pay10 (F := Ideal))⟩,
      List.mem_cons_of_mem _ (List.mem_cons_of_mem _ (List.mem_singleton_self _)), (Rect.mem_set_unit (inb := inb_S128x160_S64x32_0_0)).mpr fun a => ?_⟩
    fin_cases a
    · exact ⟨Nat.zero_le _, hy⟩
    · exact ⟨Nat.zero_le _, hc⟩
  · refine ⟨_, List.mem_cons_self, (Rect.mem_set_unit (inb := inb_S128x160_S64x128_0_32)).mpr fun a => ?_⟩
    fin_cases a
    · exact ⟨Nat.zero_le _, hy⟩
    · exact ⟨Nat.le_of_not_lt hc, h1⟩

/-- The whole of the first chunk's scratch. -/
theorem firstKV (K V : FVec Ideal S1x1x64x2048 .f32) (y : S128x160.Idx) (hy : 64 ≤ (y 0).val) :
    View.canon (Val := Elt Ideal) (s := S128x160) (e := .f32)
      [⟨Rect.unit (s := S128x160) ![64, 32] S64x128.size inb_S128x160_S64x128_64_32, k0_pay14 (F := Ideal) (k0_pay6 (F := Ideal) V)⟩,
      ⟨Rect.unit (s := S128x160) ![0, 32] S64x128.size inb_S128x160_S64x128_0_32, k0_pay13 (F := Ideal) (k0_pay12 (F := Ideal) K)⟩,
      ⟨Rect.unit ![64, 0] S64x32.size inb_S128x160_S64x32_64_0, (k0_pay11 (F := Ideal))⟩,
      ⟨Rect.unit ![0, 0] S64x32.size inb_S128x160_S64x32_0_0, (k0_pay10 (F := Ideal))⟩] y = firstAll K V y := by
  have h0 : (y 0).val < 128 := (y 0).isLt
  have h1 : (y 1).val < 160 := (y 1).isLt
  refine View.canon_append_of_pieces (Val := Elt Ideal) (S := S128x160) (e := .f32) (firstAll K V) []
    (⟨Rect.unit (s := S128x160) ![64, 32] S64x128.size inb_S128x160_S64x128_64_32, k0_pay14 (F := Ideal) (k0_pay6 (F := Ideal) V)⟩ ::
    [⟨Rect.unit (s := S128x160) ![0, 32] S64x128.size inb_S128x160_S64x128_0_32, k0_pay13 (F := Ideal) (k0_pay12 (F := Ideal) K)⟩,
      ⟨Rect.unit ![64, 0] S64x32.size inb_S128x160_S64x32_64_0, (k0_pay11 (F := Ideal))⟩,
      ⟨Rect.unit ![0, 0] S64x32.size inb_S128x160_S64x32_0_0, (k0_pay10 (F := Ideal))⟩]) ?_ y ?_
  · refine List.forall_mem_cons.mpr ⟨fun x => ?_, firstPieces K V⟩
    refine pay14_first K V x _ ?_ ?_
    · exact ValueKit.rect_emb_unit_val _ _ inb_S128x160_S64x128_64_32 x 0
    · exact ValueKit.rect_emb_unit_val _ _ inb_S128x160_S64x128_64_32 x 1
  · by_cases hc : (y 1).val < 32
    · refine ⟨⟨Rect.unit (s := S128x160) ![64, 0] S64x32.size inb_S128x160_S64x32_64_0, (k0_pay11 (F := Ideal))⟩,
        List.mem_cons_of_mem _ (List.mem_cons_of_mem _ List.mem_cons_self), (Rect.mem_set_unit (inb := inb_S128x160_S64x32_64_0)).mpr fun a => ?_⟩
      fin_cases a
      · exact ⟨hy, h0⟩
      · exact ⟨Nat.zero_le _, hc⟩
    · refine ⟨_, List.mem_cons_self, (Rect.mem_set_unit (inb := inb_S128x160_S64x128_64_32)).mpr fun a => ?_⟩
      fin_cases a
      · exact ⟨hy, h0⟩
      · exact ⟨Nat.le_of_not_lt hc, h1⟩

end Cert.KernelIdeal.Val
-- ==== Proof.Point.lean ====
/-
  One grid point of the kernel: what it leaves in the output block and in the carried scratch.
-/
module

public import proofs.«01_k».proof.Proof.Block

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ)

theorem carryA (c : Dev nD) (t : Fin cfg0.N) (h0 : t.val % 12 = 0) :
    (outsAt0 (F := Ideal) m c t.val t.isLt).2 = (k0_pay2 (F := Ideal), k0_pay3 (F := Ideal), k0_pay4 (F := Ideal)) := by
  rw [outsAt0_A m c t h0]
  frame_out

theorem carryB (c : Dev nD) (t : Fin cfg0.N) (h0 : ¬t.val % 12 = 0) :
    (outsAt0 (F := Ideal) m c t.val t.isLt).2 = (outsAt0 (F := Ideal) m c (t.val - 1) (Nat.lt_of_le_of_lt (Nat.sub_le _ _) t.isLt)).2 := by
  rw [outsAt0_B m c t h0]
  frame_out
  rfl

theorem carry (c : Dev nD) (n : ℕ) : ∀ hn : n < cfg0.N,
    (outsAt0 (F := Ideal) m c n hn).2 = (k0_pay2 (F := Ideal), k0_pay3 (F := Ideal), k0_pay4 (F := Ideal)) := by
  induction n with
  | zero => exact fun hn => carryA m c ⟨0, hn⟩ rfl
  | succ n ih =>
    intro hn
    have hn' : n + 1 < 12 := hn
    exact (carryB m c ⟨n + 1, hn⟩ (by show ¬(n + 1) % 12 = 0; omega)).trans (ih _)

/-- The landmark part of a head's output, from the three blocks. -/
def landAll (Q K V : FVec Ideal S1x1x64x2048 .f32) : FVec Ideal S64x2048 .f32 :=
  k0_pay16 (F := Ideal) Q (k0_pay7 (F := Ideal) K (k0_pay4 (F := Ideal))) (k0_pay3 (F := Ideal)) (k0_pay8 (F := Ideal) V (k0_pay4 (F := Ideal)))

/-- A head's output block, from its three blocks. -/
def headOut (Q K V : FVec Ideal S1x1x64x2048 .f32) : FVec Ideal S1x1x64x2048 .f32 :=
  outAll V (k0_pay36 (F := Ideal) (scoreAll Q K) (k0_pay2 (F := Ideal))) (landAll Q K V)

theorem firstRead (K V : FVec Ideal S1x1x64x2048 .f32) (d : Fin 64) (c : Fin 160) :
    firstAll K V ((Rect.unit (s := S128x160) ![0, 0] ![64, 160] inb_S128x160_S64x160_0_0).toLoadRect.idx (ix2 d c)) = padCol K d (0 + c.val) := by
  unfold firstAll
  rw [dif_pos (by show 0 + 1 * d.val < 64; omega)]
  exact congrArg₂ (padCol K) (Fin.ext (by show 0 + 1 * d.val = d.val; omega)) (by show 0 + 1 * c.val = 0 + c.val; omega)

theorem firstReadV (K V : FVec Ideal S1x1x64x2048 .f32) (d : Fin 64) (c : Fin 160) :
    firstAll K V ((Rect.unit (s := S128x160) ![64, 0] ![64, 160] inb_S128x160_S64x160_64_0).toLoadRect.idx (ix2 d c)) = padCol V d (0 + c.val) := by
  unfold firstAll
  rw [dif_neg (by show ¬(64 + 1 * d.val < 64); omega)]
  exact congrArg₂ (padCol V) (Fin.ext (by show 64 + 1 * d.val - 64 = d.val; omega)) (by show 0 + 1 * c.val = 0 + c.val; omega)

theorem fullRead (f : FVec Ideal S160x2048 .f32) :
    (fun j => f ((Rect.unit (s := S160x2048) ![0, 0] ![160, 2048] inb_S160x2048_S160x2048_0_0).toLoadRect.idx j)) = f := by
  funext j
  congr 1
  funext a
  refine Fin.ext ?_
  fin_cases a
  · show 0 + 1 * (j 0).val = (j 0).val; omega
  · show 0 + 1 * (j 1).val = (j 1).val; omega

theorem outB (c : Dev nD) (t : Fin cfg0.N) (h0 : ¬t.val % 12 = 0) (j : S1x1x64x2048.Idx) :
    (outsAt0 (F := Ideal) m c t.val t.isLt).1 j = headOut (iblk m c 0 t) (iblk m c 1 t) (iblk m c 2 t) j := by
  have hc := carry m c (t.val - 1) (Nat.lt_of_le_of_lt (Nat.sub_le _ _) t.isLt)
  rw [outsAt0_B m c t h0]
  frame_open
  simp (disch := decide) only [↓ View.readCov_skip, ↓ View.readCov_cons_toLoadRect, ↓ View.readCov_fill]
  frame_out
  simp only [read_unread_whole, hc]
  generalize iblk m c 0 t = Q
  generalize iblk m c 1 t = K
  generalize iblk m c 2 t = V
  rw [readCov_eq_of (View.whole cc0_scratch2) _ (Rect.unit ![0, 0] ![64, 160] inb_S128x160_S64x160_0_0).toLoadRect (firstAll K V)
      (fun j => firstK K V _ (by have : (j 0).val < 64 := (j 0).isLt; show 0 + 1 * (j 0).val < 64; omega)),
    readCov_eq_of (View.whole cc0_scratch2) _ (Rect.unit ![64, 0] ![64, 160] inb_S128x160_S64x160_64_0).toLoadRect (firstAll K V)
      (fun j => firstKV K V _ (by show 64 ≤ 64 + 1 * (j 0).val; omega)),
    (readCov_eq_of (View.whole cc0_scratch5) _ (Rect.unit ![0, 0] ![160, 2048] inb_S160x2048_S160x2048_0_0).toLoadRect (scoreAll Q K)
      (fun j => scoreTiles Q K _ (firstRead K V) _)).trans (fullRead _)]
  exact outTiles V _ _ _ (firstReadV K V) j
theorem outA (c : Dev nD) (t : Fin cfg0.N) (h0 : t.val % 12 = 0) (j : S1x1x64x2048.Idx) :
    (outsAt0 (F := Ideal) m c t.val t.isLt).1 j = headOut (iblk m c 0 t) (iblk m c 1 t) (iblk m c 2 t) j := by
  rw [outsAt0_A m c t h0]
  frame_open
  simp (disch := decide) only [↓ View.readCov_skip, ↓ View.readCov_cons_toLoadRect, ↓ View.readCov_fill]
  frame_out
  generalize iblk m c 0 t = Q
  generalize iblk m c 1 t = K
  generalize iblk m c 2 t = V
  rw [readCov_eq_of (View.whole cc0_scratch2) _ (Rect.unit ![0, 0] ![64, 160] inb_S128x160_S64x160_0_0).toLoadRect (firstAll K V)
      (fun j => firstK K V _ (by have : (j 0).val < 64 := (j 0).isLt; show 0 + 1 * (j 0).val < 64; omega)),
    readCov_eq_of (View.whole cc0_scratch2) _ (Rect.unit ![64, 0] ![64, 160] inb_S128x160_S64x160_64_0).toLoadRect (firstAll K V)
      (fun j => firstKV K V _ (by show 64 ≤ 64 + 1 * (j 0).val; omega)),
    (readCov_eq_of (View.whole cc0_scratch5) _ (Rect.unit ![0, 0] ![160, 2048] inb_S160x2048_S160x2048_0_0).toLoadRect (scoreAll Q K)
      (fun j => scoreTiles Q K _ (firstRead K V) _)).trans (fullRead _)]
  exact outTiles V _ _ _ (firstReadV K V) j
/-- What any grid point leaves in its output block. -/
theorem outPoint (c : Dev nD) (t : Fin cfg0.N) (j : S1x1x64x2048.Idx) :
    (outsAt0 (F := Ideal) m c t.val t.isLt).1 j = headOut (iblk m c 0 t) (iblk m c 1 t) (iblk m c 2 t) j := by
  by_cases h0 : t.val % 12 = 0
  · exact outA m c t h0 j
  · exact outB m c t h0 j

end Cert.KernelIdeal.Val
-- ==== Proof.Kern.lean ====
/-
  The kernel's result array after a run.
-/
module

public import proofs.«01_k».proof.Proof.Point

@[expose] public section

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ)

/-- Head `h` of an argument, transposed into a block. -/
def headBlk (X : FVec Ideal S1x12x2048x64 .f32) (h : Fin 12) : FVec Ideal S1x1x64x2048 .f32 := fun i => X (ix4 0 h (i 3) (i 2))

theorem entry0 (c : Dev nD) : V m c main_call0_v0 =
    transpose S1x12x64x2048 [0, 1, 3, 2] (m ((c : Thread nD τ).loc main_arg0)) transposes_S1x12x2048x64_S1x12x64x2048_0_1_3_2 := by
  show StableHlo.after hostOps0 (fun b => m (c, b)) (Proc.tc.devRef main_call0_v0) = _
  unfold hostOps0
  after_results
  rfl

theorem blk0 (c : Dev nD) (t : Fin cfg0.N) : iblk m c 0 t = headBlk (m ((c : Thread nD τ).loc main_arg0)) t := by
  funext y
  have e : ∀ t : Fin cfg0.N, win0_0.index t = ![0, t.val, 0, 0] := by decide +kernel
  refine (congrFun (entry0 m c) ((win0_0.blk t).view.emb y)).trans ?_
  unfold headBlk
  pointwise
  refine congrArg (m ((c : Thread nD τ).loc main_arg0)) (funext fun a => Fin.ext ?_)
  fin_cases a
  · rfl
  · show ((win0_0.blk t).view.emb y 1).val = t.val
    blk_simp [e t]
  · show ((win0_0.blk t).view.emb y 3).val = (y 3).val
    blk_simp [e t]
  · show ((win0_0.blk t).view.emb y 2).val = (y 2).val
    blk_simp [e t]

theorem entry1 (c : Dev nD) : V m c main_call0_v1 =
    transpose S1x12x64x2048 [0, 1, 3, 2] (m ((c : Thread nD τ).loc main_arg1)) transposes_S1x12x2048x64_S1x12x64x2048_0_1_3_2 := by
  show StableHlo.after hostOps0 (fun b => m (c, b)) (Proc.tc.devRef main_call0_v1) = _
  unfold hostOps0
  after_results
  rfl

theorem blk1 (c : Dev nD) (t : Fin cfg0.N) : iblk m c 1 t = headBlk (m ((c : Thread nD τ).loc main_arg1)) t := by
  funext y
  have e : ∀ t : Fin cfg0.N, win0_1.index t = ![0, t.val, 0, 0] := by decide +kernel
  refine (congrFun (entry1 m c) ((win0_1.blk t).view.emb y)).trans ?_
  unfold headBlk
  pointwise
  refine congrArg (m ((c : Thread nD τ).loc main_arg1)) (funext fun a => Fin.ext ?_)
  fin_cases a
  · rfl
  · show ((win0_1.blk t).view.emb y 1).val = t.val
    blk_simp [e t]
  · show ((win0_1.blk t).view.emb y 3).val = (y 3).val
    blk_simp [e t]
  · show ((win0_1.blk t).view.emb y 2).val = (y 2).val
    blk_simp [e t]

theorem entry2 (c : Dev nD) : V m c main_call0_v2 =
    transpose S1x12x64x2048 [0, 1, 3, 2] (m ((c : Thread nD τ).loc main_arg2)) transposes_S1x12x2048x64_S1x12x64x2048_0_1_3_2 := by
  show StableHlo.after hostOps0 (fun b => m (c, b)) (Proc.tc.devRef main_call0_v2) = _
  unfold hostOps0
  after_results
  rfl

theorem blk2 (c : Dev nD) (t : Fin cfg0.N) : iblk m c 2 t = headBlk (m ((c : Thread nD τ).loc main_arg2)) t := by
  funext y
  have e : ∀ t : Fin cfg0.N, win0_2.index t = ![0, t.val, 0, 0] := by decide +kernel
  refine (congrFun (entry2 m c) ((win0_2.blk t).view.emb y)).trans ?_
  unfold headBlk
  pointwise
  refine congrArg (m ((c : Thread nD τ).loc main_arg2)) (funext fun a => Fin.ext ?_)
  fin_cases a
  · rfl
  · show ((win0_2.blk t).view.emb y 1).val = t.val
    blk_simp [e t]
  · show ((win0_2.blk t).view.emb y 3).val = (y 3).val
    blk_simp [e t]
  · show ((win0_2.blk t).view.emb y 2).val = (y 2).val
    blk_simp [e t]

theorem region (c : Dev nD) : (dats m 0 c).arrAt 3 cfg0.N = fun i : S1x12x64x2048.Idx =>
    headOut (headBlk (m ((c : Thread nD τ).loc main_arg0)) (i 1)) (headBlk (m ((c : Thread nD τ).loc main_arg1)) (i 1))
      (headBlk (m ((c : Thread nD τ).loc main_arg2)) (i 1)) (ix4 0 0 (i 2) (i 3)) := by
  refine (dats m 0 c).arrAt_eq_of_covers 3 _ (by decide +kernel) fun t hf y => ?_
  blk_simp
  rw [after0_3]
  have e : ∀ t : Fin cfg0.N, win0_3.index t = ![0, t.val, 0, 0] := by decide +kernel
  refine (outPoint m c t y).trans ?_
  have h1 : (win0_3.blk t).view.emb y 1 = t := by
    refine Fin.ext ?_
    blk_simp [e t]
  have h2 : (win0_3.blk t).view.emb y 2 = y 2 := by
    refine Fin.ext ?_
    blk_simp [e t]
  have h3 : (win0_3.blk t).view.emb y 3 = y 3 := by
    refine Fin.ext ?_
    blk_simp [e t]
  rw [blk0, blk1, blk2, h1, h2, h3]
  exact congrArg (headOut _ _ _) (funext fun a => by
    fin_cases a
    · exact Subsingleton.elim (α := Fin 1) _ _
    · exact Subsingleton.elim (α := Fin 1) _ _
    · rfl
    · rfl)

/-- The result at an index: the head's output block, transposed back. -/
theorem tailEq (c : Dev nD) (i : S1x12x2048x64.Idx) :
    Pipeline.afterTail₀ cfgs (dats m) 0 (V0 m) [hostOps1] c main_v0 i =
      headOut (headBlk (m ((c : Thread nD τ).loc main_arg0)) (i 1)) (headBlk (m ((c : Thread nD τ).loc main_arg1)) (i 1))
        (headBlk (m ((c : Thread nD τ).loc main_arg2)) (i 1)) (ix4 0 0 (i 3) (i 2)) := by
  unfold Pipeline.afterTail₀
  show StableHlo.after hostOps1 _ (Proc.tc.devRef main_v0) i = _
  unfold hostOps1
  after_results
  have hr : Pipeline.withArrays (cfgs 0).spec c (V0 m c) (fun w => (dats m 0 c).arrAt w (cfgs 0).N) (Proc.tc.devRef main_call0_v3)
      = (dats m 0 c).arrAt 3 cfg0.N := Pipeline.withArrays_arr spec0 winFacts0.arr_inj c (V0 m c) (fun w => (dats m 0 c).arrAt w (cfgs 0).N) 3
  refine (congrFun (congrArg (transpose S1x12x2048x64 [0, 1, 3, 2] · transposes_S1x12x64x2048_S1x12x2048x64_0_1_3_2) (hr.trans (region m c))) i).trans ?_
  pointwise

end Cert.KernelIdeal.Val
-- ==== Proof.Soft.lean ====
/-
  The softmax over the extended reals: its weights, and how entries that are masked with `-∞` drop out.
-/
module

public import Idealize.ShloMosaic.PureOps.Ideal

@[expose] public section

noncomputable section

namespace Cert.Soft

open Idealize.ShloMosaic

/-- The pattern of `-∞` is the least extended real. -/
theorem bits_negInf : Ideal.ofBits .f32 0xFF800000#32 = (⊥ : EReal) := by
  simp [Ideal.ofBits, Ideal.ieee]

/-- The pattern of `+∞` is the greatest extended real. -/
theorem bits_posInf : Ideal.ofBits .f32 0x7F800000#32 = (⊤ : EReal) := by
  simp [Ideal.ofBits, Ideal.ieee]

/-- The scale of the scores is the real number `1/8`. -/
theorem bits_eighth : Ideal.ofBits .f32 0x3E000000#32 = ((1 / 8 : ℝ) : EReal) := by
  simp [Ideal.ofBits, Ideal.ieee, -EReal.coe_mul]
  norm_num

/-- The greatest of the scores. -/
def top {n : ℕ} (s : Fin n → EReal) : EReal := Finset.univ.fold max ⊥ s

/-- The softmax weight of entry `k`. -/
def soft {n : ℕ} (s : Fin n → EReal) (k : Fin n) : EReal :=
  Ideal.div (Ideal.exp (s k - top s)) (∑ j, Ideal.exp (s j - top s))

theorem top_eq_sup {n : ℕ} (s : Fin n → EReal) : top s = Finset.univ.sup s := rfl

theorem exp_bot_sub (m : EReal) : Ideal.exp (⊥ - m) = 0 := by
  rw [EReal.bot_sub]; rfl

/-- Masked entries do not change the greatest score. -/
theorem top_embed {m n : ℕ} (s : Fin n → EReal) (f : Fin m → Fin n) (hs : ∀ i, i ∉ Set.range f → s i = ⊥) :
    top s = top (fun t => s (f t)) := by
  rw [top_eq_sup, top_eq_sup]
  apply le_antisymm
  · refine Finset.sup_le fun i _ => ?_
    by_cases h : i ∈ Set.range f
    · obtain ⟨t, rfl⟩ := h
      exact Finset.le_sup (f := fun t => s (f t)) (Finset.mem_univ t)
    · rw [hs i h]; exact bot_le
  · exact Finset.sup_le fun t _ => Finset.le_sup (f := s) (Finset.mem_univ (f t))

theorem exp_nonneg (x : EReal) : 0 ≤ Ideal.exp x := by
  induction x with
  | bot => exact le_refl _
  | top => exact le_top
  | coe r => exact EReal.coe_nonneg.mpr (Real.exp_pos r).le

/-- The sum of the exponentials of finite scores is not zero. -/
theorem den_ne_zero {m : ℕ} (s : Fin (m + 1) → EReal) (hr : ∀ t, ∃ r : ℝ, s t = r) :
    (∑ j, Ideal.exp (s j - top s)) ≠ 0 := by
  obtain ⟨t, -, ht⟩ := Finset.exists_mem_eq_sup (Finset.univ : Finset (Fin (m + 1))) Finset.univ_nonempty s
  have h1 : Ideal.exp (s t - top s) = 1 := by
    obtain ⟨r, hr⟩ := hr t
    rw [top_eq_sup, ht, hr, ← EReal.coe_sub, sub_self]
    show ((Real.exp 0 : ℝ) : EReal) = 1
    rw [Real.exp_zero]; rfl
  have h2 : (1 : EReal) ≤ ∑ j, Ideal.exp (s j - top s) := by
    rw [← h1]
    exact Finset.single_le_sum (f := fun j => Ideal.exp (s j - top s)) (fun j _ => exp_nonneg _) (Finset.mem_univ t)
  intro e
  rw [e] at h2
  exact absurd h2 (by simp)

/-- A weighted sum whose scores outside a selection are masked is the weighted sum of the selection. -/
theorem weighted_embed {m n : ℕ} (s v : Fin n → EReal) (f : Fin (m + 1) → Fin n) (hf : Function.Injective f)
    (hs : ∀ i, i ∉ Set.range f → s i = ⊥) (hr : ∀ t, ∃ r : ℝ, s (f t) = r) :
    ∑ i, soft s i * v i = ∑ t, soft (fun t => s (f t)) t * v (f t) := by
  have hd : (∑ j, Ideal.exp (s j - top s)) = ∑ t, Ideal.exp (s (f t) - top (fun t => s (f t))) := by
    rw [top_embed s f hs]
    refine (Fintype.sum_of_injective f hf _ _ (fun i hi => ?_) (fun t => rfl)).symm
    rw [hs i hi]; exact exp_bot_sub _
  have h0 := den_ne_zero (fun t => s (f t)) hr
  refine (Fintype.sum_of_injective f hf _ _ (fun i hi => ?_) (fun t => ?_)).symm
  · unfold soft
    rw [hs i hi, exp_bot_sub, hd, Ideal.div, if_neg h0, zero_mul, zero_mul]
  · unfold soft
    rw [hd, top_embed s f hs]

/-- A scale that is a real number and not negative goes through a sum. -/
theorem sum_mul_scale {ι : Type} (t : Finset ι) (f : ι → EReal) (a : EReal) (h0 : 0 ≤ a) (h1 : a ≠ ⊤) :
    (∑ i ∈ t, f i) * a = ∑ i ∈ t, f i * a := by
  classical
  induction t using Finset.induction_on with
  | empty => simp
  | insert i t hi ih =>
    rw [Finset.sum_insert hi, Finset.sum_insert hi, mul_comm, EReal.left_distrib_of_nonneg_of_ne_top h0 h1, ← ih,
      mul_comm a, mul_comm a]

/-- The scaled score of two vectors, with the scale at the sum or at one factor. -/
theorem score_scale {n : ℕ} (q k : Fin n → EReal) :
    (∑ d, q d * k d) * Ideal.ofBits .f32 0x3E000000#32 = ∑ d, k d * (q d * Ideal.ofBits .f32 0x3E000000#32) := by
  have h : Ideal.ofBits .f32 0x3E000000#32 = ((1 / 8 : ℝ) : EReal) := bits_eighth
  rw [h, sum_mul_scale _ _ _ (EReal.coe_nonneg.mpr (by norm_num)) (EReal.coe_ne_top _)]
  refine Finset.sum_congr rfl fun d _ => ?_
  rw [mul_comm (q d), mul_assoc]

/-- A sum of products of real numbers is a real number. -/
theorem sum_real {n : ℕ} (f : Fin n → EReal) (hf : ∀ d, ∃ r : ℝ, f d = r) : ∃ r : ℝ, ∑ d, f d = r := by
  choose g hg using hf
  refine ⟨∑ d, g d, ?_⟩
  rw [Finset.sum_congr rfl fun d _ => hg d]
  induction (Finset.univ : Finset (Fin n)) using Finset.induction_on with
  | empty => simp
  | insert i t hi ih => rw [Finset.sum_insert hi, Finset.sum_insert hi, ih, EReal.coe_add]

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

end Cert.Soft
-- ==== Proof.KerRead.lean ====
/-
  The kernel's masks, selector and softmaxes, at an index.
-/
module

public import proofs.«01_k».proof.Proof.Tiles
public import proofs.«01_k».proof.Proof.Soft
public import Idealize.ShloMosaic.Lib.WordCmp
public import Idealize.ShloMosaic.Lib.Routing.Words

@[expose] public section

set_option maxRecDepth 16384

noncomputable section

namespace Cert.KernelIdeal.Val

open Cert.KernelIdeal Cert.KernelIdeal.Gen Idealize.ShloMosaic Idealize.ShloMosaic.TcCoe Idealize.SL.Sem

/-- The band's weights: the softmax down the 160 rows of the masked scores. -/
theorem pay36_apply (sc band : FVec Ideal S160x2048 .f32) (c : Fin 160) (s : Fin 2048) :
    k0_pay36 (F := Ideal) sc band (ix2 c s) = Cert.Soft.soft (fun c => sc (ix2 c s) + band (ix2 c s)) c := by
  pointwise [k0_pay36]
  rw [Cert.Soft.bits_negInf]
  rfl

/-- The band mask. -/
theorem pay2_apply (c : Fin 160) (s : Fin 2048) :
    k0_pay2 (F := Ideal) (ix2 c s) = if s.val % 128 ≤ c.val ∧ c.val ≤ s.val % 128 + 32 then 0 else ⊥ := by
  pointwise [k0_pay2]
  have := Nat.mod_lt s.val (show 0 < 128 by decide)
  rw [Cert.Soft.bits_negInf, Routing.remsi_word .vector (a := s.val) (b := 128) (by omega) (by decide) (by decide),
    WordCmp.addi_ofNat]
  word_cmp

/-- The landmark mask. -/
theorem pay3_apply (l : Fin 64) (s : Fin 2048) :
    k0_pay3 (F := Ideal) (ix2 l s) = if s.val < 32 * l.val then ⊥ else 0 := by
  pointwise [k0_pay3]
  rw [Cert.Soft.bits_negInf, WordCmp.muli_ofNat, Nat.mul_comm l.val]
  word_cmp

/-- The landmark selector. -/
theorem pay4_apply (s : Fin 2048) (l : Fin 64) :
    k0_pay4 (F := Ideal) (ix2 s l) = if s.val = 32 * l.val then 1 else 0 := by
  pointwise [k0_pay4]
  rw [WordCmp.muli_ofNat, Nat.mul_comm l.val]
  word_cmp
  split <;> rename_i h
  · simp only [h, decide_true]
    show (((1#32 : BitVec 32).toInt : ℝ) : EReal) = 1
    simp
  · simp only [h, decide_false]
    show (((0#32 : BitVec 32).toInt : ℝ) : EReal) = 0
    simp

/-- A product with the selector picks every 32nd column. -/
theorem select_sum (f : Fin 2048 → EReal) (l : Fin 64) :
    ∑ s : Fin 2048, f s * k0_pay4 (F := Ideal) (ix2 s l) = f ⟨32 * l.val, by omega⟩ := by
  rw [Finset.sum_eq_single (⟨32 * l.val, by omega⟩ : Fin 2048)]
  · rw [pay4_apply, if_pos rfl, mul_one]
  · intro s _ hs
    rw [pay4_apply, if_neg (fun h => hs (Fin.ext h)), mul_zero]
  · intro h; exact absurd (Finset.mem_univ _) h

/-- The landmark keys. -/
theorem pay7_apply (K : FVec Ideal S1x1x64x2048 .f32) (d l : Fin 64) :
    k0_pay7 (F := Ideal) K (k0_pay4 (F := Ideal)) (ix2 d l) = K (ix4 0 0 d ⟨32 * l.val, by omega⟩) := by
  refine Eq.trans ?_ (select_sum (fun s => K (ix4 0 0 d s)) l)
  pointwise [k0_pay7]
  exact Finset.sum_congr rfl fun x _ => congrArg (· * k0_pay4 (F := Ideal) (ix2 x l)) (pay5_eq K (ix2 d x))

/-- The landmark values. -/
theorem pay8_apply (V : FVec Ideal S1x1x64x2048 .f32) (d l : Fin 64) :
    k0_pay8 (F := Ideal) V (k0_pay4 (F := Ideal)) (ix2 d l) = V (ix4 0 0 d ⟨32 * l.val, by omega⟩) := by
  refine Eq.trans ?_ (select_sum (fun s => V (ix4 0 0 d s)) l)
  pointwise [k0_pay8]
  exact Finset.sum_congr rfl fun x _ => congrArg (· * k0_pay4 (F := Ideal) (ix2 x l)) (pay6_eq V (ix2 d x))

/-- The landmark attention from the landmark keys and values. -/
theorem pay16_apply (Q : FVec Ideal S1x1x64x2048 .f32) (lk lv : FVec Ideal S64x64 .f32) (mask : FVec Ideal S64x2048 .f32)
    (d : Fin 64) (s : Fin 2048) :
    k0_pay16 (F := Ideal) Q lk mask lv (ix2 d s)
      = ∑ l : Fin 64, lv (ix2 d l) * Cert.Soft.soft (fun l => (∑ e : Fin 64, lk (ix2 e l) * (Q (ix4 0 0 e s) * eighth)) + mask (ix2 l s)) l := by
  have e : ∀ e : Fin 64, Q (ix4 0 0 e s) * eighth = k0_pay15 (F := Ideal) Q (ix2 e s) := fun e => (pay15_eq Q (ix2 e s)).symm
  simp only [e]
  pointwise [k0_pay16]
  rw [Cert.Soft.bits_negInf]
  rfl

end Cert.KernelIdeal.Val
-- ==== Proof.RefRead.lean ====
/-
  The reference's padded reads and gathers, at an index.
-/
module

public import proofs.«01_k».proof.Proof.Gen.ReferenceIdeal.Read
public import Idealize.ShloMosaic.Lib.Pointwise
public import Idealize.ShloMosaic.Lib.Pipeline.ValueKit
public import Idealize.ShloMosaic.Lib.WordCmp
public import proofs.«01_k».proof.Proof.Soft

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.SL.Sem

/-- The windowed gather at an index: the operand at the row that the index array names, clamped into range. -/
theorem gatherWin {α : Type} (x : S1x12x2112x64.Idx → α) (idx : IVec S2048x64x1 32) (y : S1x12x2048x64x64.Idx) :
    Host.gather gather_S1x12x2112x64_S2048x64x1_S1x12x2048x64x64_014_2_n_n_2_2_112164 x idx y
      = x (ix4 (y 0) (y 1) ⟨min (idx (ix3 (y 2) (y 3) 0)).toInt.toNat 2111, by omega⟩ (y 4)) := by
  unfold Host.gather
  congr 1
  funext a
  refine Fin.ext ?_
  show GatherDims.start gather_S1x12x2112x64_S2048x64x1_S1x12x2048x64x64_014_2_n_n_2_2_112164 y idx a
    + GatherDims.batchCoord gather_S1x12x2112x64_S2048x64x1_S1x12x2048x64x64_014_2_n_n_2_2_112164 y a
    + GatherDims.offCoord gather_S1x12x2112x64_S2048x64x1_S1x12x2048x64x64_014_2_n_n_2_2_112164 y a = _
  rw [GatherDims.batchCoord_eq_zero _ _ _ List.not_mem_nil]
  match a with
  | ⟨0, _⟩ =>
    unfold GatherDims.start GatherDims.offCoord
    rw [dif_neg (by decide +revert), dif_pos (by decide +revert)]
    simp only [Nat.zero_add, Nat.add_zero]
    rfl
  | ⟨1, _⟩ =>
    unfold GatherDims.start GatherDims.offCoord
    rw [dif_neg (by decide +revert), dif_pos (by decide +revert)]
    simp only [Nat.zero_add, Nat.add_zero]
    rfl
  | ⟨2, _⟩ =>
    unfold GatherDims.start GatherDims.offCoord
    rw [dif_pos (by decide +revert), dif_neg (by decide +revert)]
    simp only [Nat.zero_add, Nat.add_zero]
    have hsi : GatherDims.siIdx gather_S1x12x2112x64_S2048x64x1_S1x12x2048x64x64_014_2_n_n_2_2_112164 y
        ⟨List.idxOf (2 : Fin 4) [2], by decide⟩ = ix3 (y 2) (y 3) 0 := by
      funext b; refine Fin.ext ?_
      match b with
      | ⟨0, _⟩ => rfl
      | ⟨1, _⟩ => rfl
      | ⟨2, _⟩ => rfl
    exact congrArg (fun i => min (idx i).toInt.toNat 2111) hsi
  | ⟨3, _⟩ =>
    unfold GatherDims.start GatherDims.offCoord
    rw [dif_neg (by decide +revert), dif_pos (by decide +revert)]
    simp only [Nat.zero_add, Nat.add_zero]
    rfl

/-- The landmark gather at an index. -/
theorem gatherLand {α : Type} (x : S1x12x2048x64.Idx → α) (idx : IVec S64x1 32) (y : S1x12x64x64.Idx) :
    Host.gather gather_S1x12x2048x64_S64x1_S1x12x64x64_013_2_n_n_2_1_112164 x idx y
      = x (ix4 (y 0) (y 1) ⟨min (idx (ix2 (y 2) 0)).toInt.toNat 2047, by omega⟩ (y 3)) := by
  unfold Host.gather
  congr 1
  funext a
  refine Fin.ext ?_
  show GatherDims.start gather_S1x12x2048x64_S64x1_S1x12x64x64_013_2_n_n_2_1_112164 y idx a
    + GatherDims.batchCoord gather_S1x12x2048x64_S64x1_S1x12x64x64_013_2_n_n_2_1_112164 y a
    + GatherDims.offCoord gather_S1x12x2048x64_S64x1_S1x12x64x64_013_2_n_n_2_1_112164 y a = _
  rw [GatherDims.batchCoord_eq_zero _ _ _ List.not_mem_nil]
  match a with
  | ⟨0, _⟩ =>
    unfold GatherDims.start GatherDims.offCoord
    rw [dif_neg (by decide +revert), dif_pos (by decide +revert)]
    simp only [Nat.zero_add, Nat.add_zero]
    rfl
  | ⟨1, _⟩ =>
    unfold GatherDims.start GatherDims.offCoord
    rw [dif_neg (by decide +revert), dif_pos (by decide +revert)]
    simp only [Nat.zero_add, Nat.add_zero]
    rfl
  | ⟨2, _⟩ =>
    unfold GatherDims.start GatherDims.offCoord
    rw [dif_pos (by decide +revert), dif_neg (by decide +revert)]
    simp only [Nat.zero_add, Nat.add_zero]
    have hsi : GatherDims.siIdx gather_S1x12x2048x64_S64x1_S1x12x64x64_013_2_n_n_2_1_112164 y
        ⟨List.idxOf (2 : Fin 4) [2], by decide⟩ = ix2 (y 2) 0 := by
      funext b; refine Fin.ext ?_
      match b with
      | ⟨0, _⟩ => rfl
      | ⟨1, _⟩ => rfl
    exact congrArg (fun i => min (idx i).toInt.toNat 2047) hsi
  | ⟨3, _⟩ =>
    unfold GatherDims.start GatherDims.offCoord
    rw [dif_neg (by decide +revert), dif_pos (by decide +revert)]
    simp only [Nat.zero_add, Nat.add_zero]
    rfl

/-! ## The softmax along the last axis, as the reference computes it -/

/-- The greatest entry of each row, broadcast back along the row. -/
def rowTop (y : FVec Ideal S1x12x2048x64 .f32) : FVec Ideal S1x12x2048x64 .f32 :=
  broadcastInDim S1x12x2048x64 ![0, 1, 2, 3] bcast_S1x12x2048x1_S1x12x2048x64_0_1_2_3
    (broadcastInDim S1x12x2048x1 ![0, 1, 2] bcast_S1x12x2048_S1x12x2048x1_0_1_2
      (maximumf (broadcastInDim S1x12x2048 ![] bcast_S_S1x12x2048 (constant (F := Ideal) S_ .f32 0xFF800000#32))
        (Host.reduce FloatOps.maximumf y (constant (F := Ideal) S_ .f32 0xFF800000#32)
          reducesTo_S1x12x2048x64_S1x12x2048_d3 h_S_)))

/-- The exponentials of each row less its greatest entry. -/
def rowExp (y : FVec Ideal S1x12x2048x64 .f32) : FVec Ideal S1x12x2048x64 .f32 := Host.exp (subf y (rowTop y))

/-- Each row's exponentials over their sum. -/
def rowSoft (y : FVec Ideal S1x12x2048x64 .f32) : FVec Ideal S1x12x2048x64 .f32 :=
  Host.divf (rowExp y)
    (broadcastInDim S1x12x2048x64 ![0, 1, 2, 3] bcast_S1x12x2048x1_S1x12x2048x64_0_1_2_3
      (broadcastInDim S1x12x2048x1 ![0, 1, 2] bcast_S1x12x2048_S1x12x2048x1_0_1_2
        (Host.reduceAdd (rowExp y) (constant (F := Ideal) S_ .f32 0x00000000#32)
          reducesTo_S1x12x2048x64_S1x12x2048_d3 h_S_)))

/-- Each row's greatest entry, before it is broadcast. -/
theorem rowMax_apply (y : FVec Ideal S1x12x2048x64 .f32) (h : Fin 12) (s : Fin 2048) :
    Host.reduce FloatOps.maximumf y (constant (F := Ideal) S_ .f32 0xFF800000#32)
        reducesTo_S1x12x2048x64_S1x12x2048_d3 h_S_ (ix3 0 h s)
      = Cert.Soft.top (fun w : Fin 64 => y (ix4 0 h s w)) := by
  pointwise
  rw [Cert.Soft.bits_negInf]
  rfl

/-- A row's number, broadcast back along the row. -/
theorem rowBroadcast (z : FVec Ideal S1x12x2048 .f32) (h : Fin 12) (s : Fin 2048) (w : Fin 64) :
    broadcastInDim S1x12x2048x64 ![0, 1, 2, 3] bcast_S1x12x2048x1_S1x12x2048x64_0_1_2_3
        (broadcastInDim S1x12x2048x1 ![0, 1, 2] bcast_S1x12x2048_S1x12x2048x1_0_1_2 z) (ix4 0 h s w)
      = z (ix3 0 h s) := by
  pointwise

/-- A row's number, clamped from below by the pattern of `-∞`. -/
theorem rowClamp (z : FVec Ideal S1x12x2048 .f32) (h : Fin 12) (s : Fin 2048) :
    maximumf (broadcastInDim S1x12x2048 ![] bcast_S_S1x12x2048 (constant (F := Ideal) S_ .f32 0xFF800000#32)) z (ix3 0 h s)
      = max (Ideal.ofBits .f32 0xFF800000#32) (z (ix3 0 h s)) := rfl

theorem rowTop_apply (y : FVec Ideal S1x12x2048x64 .f32) (h : Fin 12) (s : Fin 2048) (w : Fin 64) :
    rowTop y (ix4 0 h s w) = Cert.Soft.top (fun w : Fin 64 => y (ix4 0 h s w)) := by
  refine (rowBroadcast _ h s w).trans ((rowClamp _ h s).trans ?_)
  rw [Cert.Soft.bits_negInf, rowMax_apply]
  exact max_eq_right bot_le

theorem rowExp_apply (y : FVec Ideal S1x12x2048x64 .f32) (h : Fin 12) (s : Fin 2048) (w : Fin 64) :
    rowExp y (ix4 0 h s w) = Ideal.exp (y (ix4 0 h s w) - Cert.Soft.top (fun w : Fin 64 => y (ix4 0 h s w))) := by
  rw [← rowTop_apply y h s w]
  rfl

theorem rowSoft_apply (y : FVec Ideal S1x12x2048x64 .f32) (h : Fin 12) (s : Fin 2048) (w : Fin 64) :
    rowSoft y (ix4 0 h s w) = Cert.Soft.soft (fun w : Fin 64 => y (ix4 0 h s w)) w := by
  unfold Cert.Soft.soft
  simp only [← rowExp_apply]
  unfold rowSoft
  generalize rowExp y = z
  refine congrArg (Ideal.div (z (ix4 0 h s w))) ((rowBroadcast _ h s w).trans ?_)
  pointwise

/-! ## The window -/

/-- The position words: position plus offset. -/
theorem v8_apply (s : Fin 2048) (w : Fin 64) : val_main_v8 (F := Ideal) (ix2 s w) = BitVec.ofNat 32 (s.val + w.val) := by
  pointwise [val_main_v8, val_main_v7, val_main_v6, val_main_v5, val_main_v4, val_main_v3, val_main_v0]
  exact WordCmp.addi_ofNat _ _

/-- An array with 32 rows of zeros before and after each head's rows. -/
def padRow (x : FVec Ideal S1x12x2048x64 .f32) (h : Fin 12) (p : ℕ) (d : Fin 64) : EReal :=
  if hp : 32 ≤ p ∧ p < 2080 then x (ix4 0 h ⟨p - 32, by omega⟩ d) else 0

theorem zero_word : FloatOps.sitofp (F := Ideal) .f32 0#32 = (0 : EReal) := by
  show (((0#32 : BitVec 32).toInt : ℝ) : EReal) = 0
  simp

theorem v1_apply (x : FVec Ideal S1x12x2048x64 .f32) (h : Fin 12) (p : Fin 2112) (d : Fin 64) :
    val_main_v1 (F := Ideal) x (ix4 0 h p d) = padRow x h p d := by
  pointwise [val_main_v1, val_main_call0_v0, val_main_c]
  unfold padRow
  rw [zero_word]
  by_cases hp : 32 ≤ p.val ∧ p.val < 2080
  · rw [dif_pos hp, dif_pos (by omega)]
  · rw [dif_neg hp, dif_neg (by omega)]

/-- The window gather of a padded array: row `s + w` of it. -/
theorem v9_apply (x : FVec Ideal S1x12x2048x64 .f32) (h : Fin 12) (s : Fin 2048) (w d : Fin 64) :
    val_main_v9 (F := Ideal) x (ix5 0 h s w d) = padRow x h (s.val + w.val) d := by
  refine (gatherWin _ _ _).trans ?_
  have e : val_main_call2_v0 (F := Ideal) (ix3 s w 0) = BitVec.ofNat 32 (s.val + w.val) := by
    rw [← v8_apply]
    pointwise [val_main_call2_v0]
  refine Eq.trans (congrArg (fun p => val_main_v1 (F := Ideal) x (ix4 0 h p d)) (Fin.ext ?_))
    (v1_apply x h ⟨s.val + w.val, by omega⟩ d)
  refine (congrArg (fun v : BitVec 32 => min v.toInt.toNat 2111) e).trans ?_
  rw [WordCmp.toInt_ofNat_of_lt (by omega)]
  show min (s.val + w.val) 2111 = s.val + w.val
  omega

theorem v10_apply (x : FVec Ideal S1x12x2048x64 .f32) (h : Fin 12) (s : Fin 2048) (w d : Fin 64) :
    val_main_v10 (F := Ideal) x (ix5 0 h s w d) = padRow x h (s.val + w.val) d := v9_apply x h s w d

/-- The mask's bit: the key lies after the query. -/
theorem future_bit (s : Fin 2048) (w : Fin 64) :
    IntOp.cmpi .sgt (IntOp.subi (BitVec.ofNat 32 (s.val + w.val)) 32#32) (BitVec.ofNat 32 s.val)
      = BitVec.ofBool (decide (32 < w.val)) := by
  have h1 : (IntOp.subi (BitVec.ofNat 32 (s.val + w.val)) 32#32).toInt = (s.val : ℤ) + w.val - 32 := by
    unfold IntOp.subi
    rw [BitVec.toInt_sub, WordCmp.toInt_ofNat_of_lt (by omega), WordCmp.toInt_ofNat_of_lt (by omega), Int.bmod_def]
    omega
  have h2 : (BitVec.ofNat 32 s.val).toInt = s.val := WordCmp.toInt_ofNat_of_lt (by omega)
  show BitVec.ofBool (BitVec.slt _ _) = _
  rw [BitVec.slt, h1, h2]
  congr 1
  exact decide_eq_decide.mpr (by omega)

/-- The window's scores: masked after the query, else the scaled product. -/
theorem v20_apply (x0 x1 : FVec Ideal S1x12x2048x64 .f32) (h : Fin 12) (s : Fin 2048) (w : Fin 64) :
    val_main_v20 (F := Ideal) x0 x1 (ix4 0 h s w) = if 32 < w.val then ⊥ else
      (∑ d : Fin 64, x0 (ix4 0 h s d) * padRow x1 h (s.val + w.val) d) * Ideal.ofBits .f32 0x3E000000#32 := by
  simp only [← v9_apply]
  pointwise [val_main_v20, val_main_call4_v1, val_main_call4_v2, val_main_call4_v0, val_main_cst_2, val_main_v19, val_main_v18,
    val_main_v17, val_main_v16, val_main_v0, val_main_v15, val_main_v14, val_main_c_1, val_main_v13, val_main_v12, val_main_cst, val_main_v11]
  rw [v8_apply, future_bit, WordCmp.select_ofBool]
  refine if_congr decide_eq_true_iff ?_ rfl
  exact Cert.Soft.bits_negInf

/-- The window's part of the result. -/
theorem v32_apply (x0 x1 x2 : FVec Ideal S1x12x2048x64 .f32) (h : Fin 12) (s : Fin 2048) (d : Fin 64) :
    val_main_v32 (F := Ideal) x0 x1 x2 (ix4 0 h s d)
      = ∑ w : Fin 64, Cert.Soft.soft (fun w : Fin 64 => val_main_v20 (F := Ideal) x0 x1 (ix4 0 h s w)) w
          * padRow x2 h (s.val + w.val) d := by
  simp only [← rowSoft_apply, ← v10_apply]
  pointwise [val_main_v32]
  rfl

/-! ## The landmarks -/

/-- The landmark words. -/
theorem v37_apply (l : Fin 64) : val_main_v37 (F := Ideal) (ix1 l) = BitVec.ofNat 32 (32 * l.val) := by
  pointwise [val_main_v37, val_main_v36, val_main_c_7, val_main_v35, val_main_v34, val_main_c_6, val_main_v33]
  rw [WordCmp.muli_ofNat, WordCmp.addi_ofNat, Nat.zero_add]

/-- The landmark gather: every 32nd row. -/
theorem v38_apply (x : FVec Ideal S1x12x2048x64 .f32) (h : Fin 12) (l d : Fin 64) :
    val_main_v38 (F := Ideal) x (ix4 0 h l d) = x (ix4 0 h ⟨32 * l.val, by omega⟩ d) := by
  refine (gatherLand _ _ _).trans ?_
  have e : val_main_call5_v0 (F := Ideal) (ix2 l 0) = BitVec.ofNat 32 (32 * l.val) := by
    rw [← v37_apply]
    pointwise [val_main_call5_v0]
  refine congrArg (fun p => x (ix4 0 h p d)) (Fin.ext ?_)
  refine (congrArg (fun v : BitVec 32 => min v.toInt.toNat 2047) e).trans ?_
  rw [WordCmp.toInt_ofNat_of_lt (by omega)]
  show min (32 * l.val) 2047 = 32 * l.val
  omega

theorem v39_apply (x : FVec Ideal S1x12x2048x64 .f32) (h : Fin 12) (l d : Fin 64) :
    val_main_v39 (F := Ideal) x (ix4 0 h l d) = x (ix4 0 h ⟨32 * l.val, by omega⟩ d) := v38_apply x h l d

/-- The landmark scores: masked after the query, else the scaled product. -/
theorem v49_apply (x0 x1 : FVec Ideal S1x12x2048x64 .f32) (h : Fin 12) (s : Fin 2048) (l : Fin 64) :
    val_main_v49 (F := Ideal) x0 x1 (ix4 0 h s l) = if s.val < 32 * l.val then ⊥ else
      (∑ d : Fin 64, x0 (ix4 0 h s d) * x1 (ix4 0 h ⟨32 * l.val, by omega⟩ d)) * Ideal.ofBits .f32 0x3E000000#32 := by
  simp only [← v38_apply]
  pointwise [val_main_v49, val_main_call7_v1, val_main_call7_v2, val_main_call7_v0, val_main_cst_9, val_main_v48, val_main_v47,
    val_main_v46, val_main_v45, val_main_v44, val_main_v43, val_main_v0, val_main_v42, val_main_v41, val_main_cst_8, val_main_v40]
  rw [v37_apply, WordCmp.cmpi_sgt_ofNat (by omega) (by omega), WordCmp.select_ofBool]
  refine if_congr decide_eq_true_iff ?_ rfl
  exact Cert.Soft.bits_negInf

/-- The landmarks' part of the result. -/
theorem v61_apply (x0 x1 x2 : FVec Ideal S1x12x2048x64 .f32) (h : Fin 12) (s : Fin 2048) (d : Fin 64) :
    val_main_v61 (F := Ideal) x0 x1 x2 (ix4 0 h s d)
      = ∑ l : Fin 64, Cert.Soft.soft (fun l : Fin 64 => val_main_v49 (F := Ideal) x0 x1 (ix4 0 h s l)) l
          * x2 (ix4 0 h ⟨32 * l.val, by omega⟩ d) := by
  simp only [← rowSoft_apply, ← v39_apply]
  pointwise [val_main_v61]
  rfl

end Cert.ReferenceIdeal.Val
-- ==== Proof.Key.lean ====
/-
  The kernel's value is the reference's, element by element, for finite queries and keys.

  Both attend over the same 33 keys.  The reference gathers 64 rows and masks the last 31 of them; the kernel scores 160 rows
  for a whole chunk of queries and masks all but a band of 33.  A masked score is `-∞`: its exponential is zero, so it neither
  moves the greatest score nor adds to the sum, and its weight is zero because the sum is not.
-/
module

public import proofs.«01_k».proof.Proof.Kern
public import proofs.«01_k».proof.Proof.KerRead
public import proofs.«01_k».proof.Proof.RefRead

@[expose] public section

set_option maxRecDepth 16384

noncomputable section

namespace Cert.Key

open Cert.KernelIdeal Cert.KernelIdeal.Gen Cert.KernelIdeal.Val Idealize.ShloMosaic Idealize.ShloMosaic.TcCoe Idealize.SL.Sem
open Cert.ReferenceIdeal.Read Cert.ReferenceIdeal.Val Cert.Soft

/-- Every entry of the array is a real number. -/
def Real4 (x : FVec Ideal S1x12x2048x64 .f32) : Prop := ∀ i, ∃ r : ℝ, x i = r

/-- The kernel's padded column of a transposed head is the reference's padded row. -/
theorem padCol_headBlk (x : FVec Ideal S1x12x2048x64 .f32) (h : Fin 12) (d : Fin 64) (p : ℕ) :
    padCol (headBlk x h) d p = padRow x h p d := rfl

theorem padRow_real {x : FVec Ideal S1x12x2048x64 .f32} (hx : Real4 x) (h : Fin 12) (p : ℕ) (d : Fin 64) :
    ∃ r : ℝ, padRow x h p d = r := by
  unfold padRow
  split
  · exact hx _
  · exact ⟨0, rfl⟩

/-- The score of query `s` against the key `t` places into its window. -/
def score (x0 x1 : FVec Ideal S1x12x2048x64 .f32) (h : Fin 12) (s : Fin 2048) (t : ℕ) : EReal :=
  (∑ d : Fin 64, x0 (ix4 0 h s d) * padRow x1 h (s.val + t) d) * Ideal.ofBits .f32 0x3E000000#32

theorem score_real {x0 x1 : FVec Ideal S1x12x2048x64 .f32} (h0 : Real4 x0) (h1 : Real4 x1) (h : Fin 12) (s : Fin 2048) (t : ℕ) :
    ∃ r : ℝ, score x0 x1 h s t = r :=
  mul_real (sum_real _ fun d => mul_real (h0 _) (padRow_real h1 h _ d)) ⟨_, bits_eighth⟩

/-- The window's part of the reference, over the 33 keys that are not masked. -/
theorem window_ref {x0 x1 : FVec Ideal S1x12x2048x64 .f32} (h0 : Real4 x0) (h1 : Real4 x1) (x2 : FVec Ideal S1x12x2048x64 .f32)
    (h : Fin 12) (s : Fin 2048) (d : Fin 64) :
    val_main_v32 (F := Ideal) x0 x1 x2 (ix4 0 h s d)
      = ∑ t : Fin 33, soft (fun t : Fin 33 => score x0 x1 h s t.val) t * padRow x2 h (s.val + t.val) d := by
  have hv : ∀ w : Fin 64, ¬ 32 < w.val → val_main_v20 (F := Ideal) x0 x1 (ix4 0 h s w) = score x0 x1 h s w.val :=
    fun w hw => (v20_apply x0 x1 h s w).trans (if_neg hw)
  have hf : ∀ t : Fin 33, val_main_v20 (F := Ideal) x0 x1 (ix4 0 h s (Fin.castLE (by decide) t)) = score x0 x1 h s t.val :=
    fun t => hv _ (by show ¬ 32 < t.val; omega)
  rw [v32_apply, weighted_embed (fun w : Fin 64 => val_main_v20 (F := Ideal) x0 x1 (ix4 0 h s w))
    (fun w => padRow x2 h (s.val + w.val) d) (Fin.castLE (show 33 ≤ 64 by decide)) (Fin.castLE_injective _)
    (fun w hw => ?_) (fun t => ?_)]
  · simp only [hf]
    rfl
  · refine (v20_apply x0 x1 h s w).trans (if_pos ?_)
    by_contra hlt
    exact hw ⟨⟨w.val, by omega⟩, Fin.ext rfl⟩
  · obtain ⟨r, hr⟩ := score_real h0 h1 h s t.val
    exact ⟨r, (hf t).trans hr⟩

/-- Where the band of query `s` begins in its chunk's 160 rows. -/
def bandRow (s : Fin 2048) (t : Fin 33) : Fin 160 := ⟨s.val % 128 + t.val, by omega⟩

theorem bandRow_pos (s : Fin 2048) (t : Fin 33) : 128 * (s.val / 128) + (bandRow s t).val = s.val + t.val := by
  show 128 * (s.val / 128) + (s.val % 128 + t.val) = _
  omega

/-- The kernel's masked score of a row of the band. -/
theorem band_score (x0 x1 : FVec Ideal S1x12x2048x64 .f32) (h : Fin 12) (s : Fin 2048) (t : Fin 33) :
    scoreAll (headBlk x0 h) (headBlk x1 h) (ix2 (bandRow s t) s) + k0_pay2 (F := Ideal) (ix2 (bandRow s t) s)
      = score x0 x1 h s t.val := by
  have ht := t.isLt
  rw [pay2_apply, if_pos (by show s.val % 128 ≤ s.val % 128 + t.val ∧ s.val % 128 + t.val ≤ s.val % 128 + 32; omega), add_zero]
  unfold score
  rw [score_scale]
  refine Finset.sum_congr rfl fun d _ => ?_
  refine congrArg₂ (· * ·) ?_ rfl
  show padRow x1 h (128 * (s.val / 128) + (bandRow s t).val) d = _
  rw [bandRow_pos]

/-- The window's part of the kernel, over the 33 rows of the band. -/
theorem window_ker {x0 x1 : FVec Ideal S1x12x2048x64 .f32} (h0 : Real4 x0) (h1 : Real4 x1) (x2 : FVec Ideal S1x12x2048x64 .f32)
    (h : Fin 12) (s : Fin 2048) (d : Fin 64) :
    ∑ c : Fin 160, padCol (headBlk x2 h) d (128 * (s.val / 128) + c.val)
        * k0_pay36 (F := Ideal) (scoreAll (headBlk x0 h) (headBlk x1 h)) (k0_pay2 (F := Ideal)) (ix2 c s)
      = ∑ t : Fin 33, soft (fun t : Fin 33 => score x0 x1 h s t.val) t * padRow x2 h (s.val + t.val) d := by
  simp only [pay36_apply, padCol_headBlk]
  simp only [mul_comm (padRow _ _ _ _)]
  rw [weighted_embed (fun c : Fin 160 => scoreAll (headBlk x0 h) (headBlk x1 h) (ix2 c s) + k0_pay2 (F := Ideal) (ix2 c s))
    (fun c => padRow x2 h (128 * (s.val / 128) + c.val) d) (bandRow s) (fun a b e => ?_) (fun c hc => ?_) (fun t => ?_)]
  · simp only [band_score, bandRow_pos]
  · have := congrArg Fin.val e
    exact Fin.ext (Nat.add_left_cancel this)
  · rw [pay2_apply, if_neg, EReal.add_bot]
    intro hlt
    exact hc ⟨⟨c.val - s.val % 128, by omega⟩, Fin.ext (by show s.val % 128 + (c.val - s.val % 128) = c.val; omega)⟩
  · obtain ⟨r, hr⟩ := score_real h0 h1 h s t.val
    exact ⟨r, (band_score x0 x1 h s t).trans hr⟩

/-- The landmarks' masked score is the same on both sides. -/
theorem land_score (x0 x1 : FVec Ideal S1x12x2048x64 .f32) (h : Fin 12) (s : Fin 2048) (l : Fin 64) :
    (∑ e : Fin 64, k0_pay7 (F := Ideal) (headBlk x1 h) (k0_pay4 (F := Ideal)) (ix2 e l) * (headBlk x0 h (ix4 0 0 e s) * eighth))
        + k0_pay3 (F := Ideal) (ix2 l s)
      = val_main_v49 (F := Ideal) x0 x1 (ix4 0 h s l) := by
  rw [v49_apply, pay3_apply]
  simp only [pay7_apply]
  by_cases hl : s.val < 32 * l.val
  · rw [if_pos hl, if_pos hl, EReal.add_bot]
  · rw [if_neg hl, if_neg hl, add_zero, score_scale]
    rfl

/-- The landmarks' part is the same on both sides. -/
theorem land_eq (x0 x1 x2 : FVec Ideal S1x12x2048x64 .f32) (h : Fin 12) (s : Fin 2048) (d : Fin 64) :
    landAll (headBlk x0 h) (headBlk x1 h) (headBlk x2 h) (ix2 d s) = val_main_v61 (F := Ideal) x0 x1 x2 (ix4 0 h s d) := by
  unfold landAll
  rw [pay16_apply, v61_apply]
  refine Finset.sum_congr rfl fun l _ => ?_
  simp only [land_score]
  rw [mul_comm, pay8_apply]
  rfl

/-- The reference's element is the kernel's. -/
theorem key {x0 x1 : FVec Ideal S1x12x2048x64 .f32} (h0 : Real4 x0) (h1 : Real4 x1) (x2 : FVec Ideal S1x12x2048x64 .f32)
    (i : S1x12x2048x64.Idx) :
    val_main_v62 (F := Ideal) x0 x1 x2 i
      = headOut (headBlk x0 (i 1)) (headBlk x1 (i 1)) (headBlk x2 (i 1)) (ix4 0 0 (i 3) (i 2)) := by
  obtain ⟨h, s, d, rfl⟩ : ∃ (h : Fin 12) (s : Fin 2048) (d : Fin 64), i = ix4 0 h s d :=
    ⟨i 1, i 2, i 3, funext fun a => by
      match a with
      | ⟨0, _⟩ => exact Subsingleton.elim (α := Fin 1) _ _
      | ⟨1, _⟩ => rfl
      | ⟨2, _⟩ => rfl
      | ⟨3, _⟩ => rfl⟩
  refine (congrArg₂ (· + ·) ((window_ref h0 h1 x2 h s d).trans (window_ker h0 h1 x2 h s d).symm)
    (land_eq x0 x1 x2 h s d).symm : _)

end Cert.Key
-- ==== Proof.Final.lean ====
/-
  The claims: the reference's frame, what the precondition says of the arrays, and the equation of the two programs.
-/
module

public import proofs.«01_k».proof.Defs
public import proofs.«01_k».proof.Proof.Key
public import proofs.«01_k».proof.Proof.Gen.ReferenceIdeal.Run
public import Idealize.ShloMosaic.Lib.Claim

@[expose] public section

set_option maxRecDepth 16384

noncomputable section

namespace Cert.Final

open Idealize.ShloMosaic Idealize.ShloMosaic.TcCoe Idealize.SL.Sem

/-- The one side condition of the precondition: a scalar broadcasts to the arrays' shape. -/
theorem preFacts : Cert.Pre_finite.Facts := ⟨Cert.ReferenceIdeal.Gen.facts.bcast_S_S1x12x2048x64⟩

attribute [local instance] preFacts

/-- The reference runs, keeps its arguments and ends with every counter at zero. -/
theorem refFrame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- An extended real whose absolute value is below `+∞` is a real number. -/
theorem real_of_bit {x : EReal} (h : FloatOps.cmpf (F := Ideal) (φ := .f32) .olt (FloatOps.hostAbsf (F := Ideal) (φ := .f32) x) (Ideal.ofBits .f32 0x7F800000#32) = 1#1) :
    ∃ r : ℝ, x = r := by
  have h' : Ideal.cmp .olt (max x (-x)) (Ideal.ofBits .f32 0x7F800000#32) = 1#1 := h
  rw [Cert.Soft.bits_posInf] at h'
  have hlt : max x (-x) < ⊤ := by
    by_contra hn
    simp [Ideal.cmp, hn] at h'
  induction x with
  | bot => simp at hlt
  | top => simp at hlt
  | coe r => exact ⟨r, rfl⟩

/-- The precondition says that the queries and the keys are real numbers. -/
theorem real_of_pre {x0 x1 x2 : FVec Ideal Cert.KernelIdeal.S1x12x2048x64 .f32}
    (h : Cert.Pre_finite.fn (F := Ideal) x0 x1 x2 = fun _ => 1#1) : Cert.Key.Real4 x0 ∧ Cert.Key.Real4 x1 := by
  have h' : ∀ i, IntOp.andi (FloatOps.cmpf (F := Ideal) (φ := .f32) .olt (FloatOps.hostAbsf (x0 i)) (Ideal.ofBits .f32 0x7F800000#32))
      (FloatOps.cmpf (F := Ideal) (φ := .f32) .olt (FloatOps.hostAbsf (x1 i)) (Ideal.ofBits .f32 0x7F800000#32)) = 1#1 := fun i => congrFun h i
  have hb : ∀ a b : BitVec 1, IntOp.andi a b = 1#1 → a = 1#1 ∧ b = 1#1 := by decide
  exact ⟨fun i => real_of_bit (hb _ _ (h' i)).1, fun i => real_of_bit (hb _ _ (h' i)).2⟩

/-- For finite queries and keys the two programs end with equal results. -/
theorem alg : Cert.algebraic_KernelIdeal_ReferenceIdeal_pre_finite := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
    · exact Cert.KernelIdeal.Gen.W_main_arg2 m (Cert.KernelIdeal.Gen.dats m) c
  · run_from Cert.ReferenceIdeal.Value.run m' g'
    obtain ⟨h0, h1, h2⟩ := hagree c
    obtain ⟨r0, r1⟩ := real_of_pre (hpre c)
    refine (Cert.ReferenceIdeal.Read.val_main_v62_eq m' c).trans ?_
    rw [h0, h1, h2]
    exact funext fun i => (Cert.Key.key r0 r1 _ i).trans (Cert.KernelIdeal.Val.tailEq m c i).symm

end Cert.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import Idealize.ShloMosaic.Adequacy
public import Idealize.ShloMosaic.Init

@[expose] public section

noncomputable section

namespace Cert.Proof

open Idealize.ShloMosaic Idealize.SL.Sem Cert.Kernel

/-- Every claim: the frames, with and without the precondition, the idealization, and the equation of the two programs. -/
theorem claim : Cert.Claim :=
  ⟨Cert.Kernel.Gen.facts, Cert.KernelIdeal.Gen.facts, Cert.ReferenceIdeal.Gen.facts, Cert.Final.preFacts,
    fun m ρ _ => Cert.Kernel.Gen.frame m ρ,
    fun m ρ _ => Cert.KernelIdeal.Gen.frame m ρ,
    fun m ρ _ => Cert.KernelIdeal.Gen.frame m ρ,
    Cert.Final.refFrame,
    fun m ρ _ => Cert.Final.refFrame m ρ trivial,
    trivial,
    Cert.Final.alg⟩

end Cert.Proof

end
